-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebook_inputs [hPre_codebook_inputs : Cert.Pre_codebook_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_codebook_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebook_inputs [hPre_codebook_inputs : Cert.Pre_codebook_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebook_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_codebook_inputs [hKernelIdeal : Cert.KernelIdeal.Facts] [hPre_codebook_inputs : Cert.Pre_codebook_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebook_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_codebook_inputs [hReferenceIdeal : Cert.ReferenceIdeal.Facts] [hPre_codebook_inputs : Cert.Pre_codebook_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebook_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_codebook_inputs [hKernelIdeal : Cert.KernelIdeal.Facts] [hReferenceIdeal : Cert.ReferenceIdeal.Facts] [hPre_codebook_inputs : Cert.Pre_codebook_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebook_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_codebook_inputs : Cert.Pre_codebook_inputs.Facts),
    quiescent_Kernel (hKernel := hKernel)
    ∧ quiescent_KernelIdeal (hKernelIdeal := hKernelIdeal)
    ∧ quiescent_KernelIdeal_pre_codebook_inputs (hKernelIdeal := hKernelIdeal) (hPre_codebook_inputs := hPre_codebook_inputs)
    ∧ quiescent_ReferenceIdeal (hReferenceIdeal := hReferenceIdeal)
    ∧ quiescent_ReferenceIdeal_pre_codebook_inputs (hReferenceIdeal := hReferenceIdeal) (hPre_codebook_inputs := hPre_codebook_inputs)
    ∧ preserves_Kernel_KernelIdeal
    ∧ algebraic_KernelIdeal_ReferenceIdeal_pre_codebook_inputs (hKernelIdeal := hKernelIdeal) (hReferenceIdeal := hReferenceIdeal) (hPre_codebook_inputs := hPre_codebook_inputs)
-- ==== Pre_codebook_inputs.lean ====
abbrev S65536x128 : Shape := ⟨2, ![65536, 128]⟩
abbrev S128x128 : Shape := ⟨2, ![128, 128]⟩
abbrev S16 : Shape := ⟨1, ![16]⟩
abbrev S4 : Shape := ⟨1, ![4]⟩
abbrev S32 : Shape := ⟨1, ![32]⟩
abbrev S96 : Shape := ⟨1, ![96]⟩
abbrev S128 : Shape := ⟨1, ![128]⟩
abbrev S128x1 : Shape := ⟨2, ![128, 1]⟩
abbrev S1x128 : Shape := ⟨2, ![1, 128]⟩
abbrev S_ : Shape := ⟨0, ![]⟩
abbrev S15 : Shape := ⟨1, ![15]⟩
abbrev S3 : Shape := ⟨1, ![3]⟩

class Facts : Prop where
  concatenates_S32_S96_S128_d0 : Shape.Concatenates [S32, S96] S128 0
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  bcast_S_S65536x128 : S_.BroadcastsInDim S65536x128 (![] : Fin 0 → Fin S65536x128.rank)
  reducesTo_S65536x128_S_d0_1 : S65536x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S16 : S_.BroadcastsInDim S16 (![] : Fin 0 → Fin S16.rank)
  reducesTo_S16_S_d0 : S16.ReducesTo [0] S_
  bcast_S_S4 : S_.BroadcastsInDim S4 (![] : Fin 0 → Fin S4.rank)
  reducesTo_S4_S_d0 : S4.ReducesTo [0] S_
  slices_S16_S15_0 : S16.Slices ![0] S15
  slices_S16_S15_1 : S16.Slices ![1] S15
  reducesTo_S15_S_d0 : S15.ReducesTo [0] S_
  slices_S4_S3_0 : S4.Slices ![0] S3
  slices_S4_S3_1 : S4.Slices ![1] S3
  reducesTo_S3_S_d0 : S3.ReducesTo [0] S_
  reducesTo_S128x128_S128_d0 : S128x128.ReducesTo [0] S128
  reducesTo_S128_S_d0 : S128.ReducesTo [0] S_

variable [Facts]

def fn_part2 {F : FTy → Type} [FloatOps F] (main_arg3 : FVec F S4 .f32) (main_v6 : IVec S128x128 1) (main_v33 : IVec S_ 1) (main_v34 : FVec F S15 .f32) (main_v35 : FVec F S15 .f32) : IVec S_ 1 :=
  let main_v36 : IVec S15 1 := cmpf .ole main_v34 main_v35
  let main_c_10 : IVec S_ 1 := constantI S_ 1 1#1
  let main_v37 : IVec S_ 1 := (fun x v => Host.reduce IntOp.andi x v reducesTo_S15_S_d0 h_S_) main_v36 main_c_10
  let main_v38 : IVec S_ 1 := andi main_v33 main_v37
  let main_v39 : FVec F S3 .f32 := (extractStridedSlice S3 ![0] · slices_S4_S3_0) main_arg3
  let main_v40 : FVec F S3 .f32 := (extractStridedSlice S3 ![1] · slices_S4_S3_1) main_arg3
  let main_v41 : IVec S3 1 := cmpf .ole main_v39 main_v40
  let main_c_11 : IVec S_ 1 := constantI S_ 1 1#1
  let main_v42 : IVec S_ 1 := (fun x v => Host.reduce IntOp.andi x v reducesTo_S3_S_d0 h_S_) main_v41 main_c_11
  let main_v43 : IVec S_ 1 := andi main_v38 main_v42
  let main_c_12 : IVec S_ 1 := constantI S_ 1 0#1
  let main_v44 : IVec S128 1 := (fun x v => Host.reduce IntOp.ori x v reducesTo_S128x128_S128_d0 h_S_) main_v6 main_c_12
  let main_c_13 : IVec S_ 1 := constantI S_ 1 1#1
  let main_v45 : IVec S_ 1 := (fun x v => Host.reduce IntOp.andi x v reducesTo_S128_S_d0 h_S_) main_v44 main_c_13
  let main_v46 : IVec S_ 1 := andi main_v43 main_v45
  main_v46

def fn_part1 {F : FTy → Type} [FloatOps F] (main_arg2 : FVec F S16 .f32) (main_arg3 : FVec F S4 .f32) (main_v6 : IVec S128x128 1) (main_v12 : IVec S_ 1) (main_v17 : IVec S128x128 1) (main_c_3 : IVec S_ 1) : IVec S_ 1 :=
  let main_v18 : IVec S_ 1 := (fun x v => Host.reduce IntOp.andi x v reducesTo_S128x128_S_d0_1 h_S_) main_v17 main_c_3
  let main_v19 : IVec S_ 1 := andi main_v12 main_v18
  let main_cst_4 : FVec F S_ .f32 := constant S_ .f32 0x7F800000#32
  let main_v20 : FVec F S16 .f32 := broadcastInDim S16 ![] bcast_S_S16 main_cst_4
  let main_v21 : IVec S16 1 := cmpf .olt main_arg2 main_v20
  let main_cst_5 : FVec F S_ .f32 := constant S_ .f32 0xFF800000#32
  let main_v22 : FVec F S16 .f32 := broadcastInDim S16 ![] bcast_S_S16 main_cst_5
  let main_v23 : IVec S16 1 := cmpf .ogt main_arg2 main_v22
  let main_v24 : IVec S16 1 := andi main_v21 main_v23
  let main_c_6 : IVec S_ 1 := constantI S_ 1 1#1
  let main_v25 : IVec S_ 1 := (fun x v => Host.reduce IntOp.andi x v reducesTo_S16_S_d0 h_S_) main_v24 main_c_6
  let main_v26 : IVec S_ 1 := andi main_v19 main_v25
  let main_cst_7 : FVec F S_ .f32 := constant S_ .f32 0x7F800000#32
  let main_v27 : FVec F S4 .f32 := broadcastInDim S4 ![] bcast_S_S4 main_cst_7
  let main_v28 : IVec S4 1 := cmpf .olt main_arg3 main_v27
  let main_cst_8 : FVec F S_ .f32 := constant S_ .f32 0xFF800000#32
  let main_v29 : FVec F S4 .f32 := broadcastInDim S4 ![] bcast_S_S4 main_cst_8
  let main_v30 : IVec S4 1 := cmpf .ogt main_arg3 main_v29
  let main_v31 : IVec S4 1 := andi main_v28 main_v30
  let main_c_9 : IVec S_ 1 := constantI S_ 1 1#1
  let main_v32 : IVec S_ 1 := (fun x v => Host.reduce IntOp.andi x v reducesTo_S4_S_d0 h_S_) main_v31 main_c_9
  let main_v33 : IVec S_ 1 := andi main_v26 main_v32
  let main_v34 : FVec F S15 .f32 := (extractStridedSlice S15 ![0] · slices_S16_S15_0) main_arg2
  let main_v35 : FVec F S15 .f32 := (extractStridedSlice S15 ![1] · slices_S16_S15_1) main_arg2
  fn_part2 (F := F) main_arg3 main_v6 main_v33 main_v34 main_v35

def fn {F : FTy → Type} [FloatOps F] (main_arg0 : FVec F S65536x128 .f32) (main_arg1 : FVec F S128x128 .f32) (main_arg2 : FVec F S16 .f32) (main_arg3 : FVec F S4 .f32) (main_arg4 : IVec S32 32) (main_arg5 : IVec S96 32) : IVec S_ 1 :=
  let main_v0 : IVec S128 32 := (fun a b => concatenate S128 0 [⟨S32, a⟩, ⟨S96, b⟩] concatenates_S32_S96_S128_d0) main_arg4 main_arg5
  let main_v1 : IVec S128x1 32 := broadcastInDim S128x1 ![0] bcast_S128_S128x1_0 main_v0
  let main_v2 : IVec S128 32 := iotaInDim S128 32 0
  let main_v3 : IVec S1x128 32 := broadcastInDim S1x128 ![1] bcast_S128_S1x128_1 main_v2
  let main_v4 : IVec S128x128 32 := broadcastInDim S128x128 ![0, 1] bcast_S128x1_S128x128_0_1 main_v1
  let main_v5 : IVec S128x128 32 := broadcastInDim S128x128 ![0, 1] bcast_S1x128_S128x128_0_1 main_v3
  let main_v6 : IVec S128x128 1 := cmpi .eq main_v4 main_v5
  let main_cst : FVec F S_ .f32 := constant S_ .f32 0x7F800000#32
  let main_v7 : FVec F S65536x128 .f32 := broadcastInDim S65536x128 ![] bcast_S_S65536x128 main_cst
  let main_v8 : IVec S65536x128 1 := cmpf .olt main_arg0 main_v7
  let main_cst_0 : FVec F S_ .f32 := constant S_ .f32 0xFF800000#32
  let main_v9 : FVec F S65536x128 .f32 := broadcastInDim S65536x128 ![] bcast_S_S65536x128 main_cst_0
  let main_v10 : IVec S65536x128 1 := cmpf .ogt main_arg0 main_v9
  let main_v11 : IVec S65536x128 1 := andi main_v8 main_v10
  let main_c : IVec S_ 1 := constantI S_ 1 1#1
  let main_v12 : IVec S_ 1 := (fun x v => Host.reduce IntOp.andi x v reducesTo_S65536x128_S_d0_1 h_S_) main_v11 main_c
  let main_cst_1 : FVec F S_ .f32 := constant S_ .f32 0x7F800000#32
  let main_v13 : FVec F S128x128 .f32 := broadcastInDim S128x128 ![] bcast_S_S128x128 main_cst_1
  let main_v14 : IVec S128x128 1 := cmpf .olt main_arg1 main_v13
  let main_cst_2 : FVec F S_ .f32 := constant S_ .f32 0xFF800000#32
  let main_v15 : FVec F S128x128 .f32 := broadcastInDim S128x128 ![] bcast_S_S128x128 main_cst_2
  let main_v16 : IVec S128x128 1 := cmpf .ogt main_arg1 main_v15
  let main_v17 : IVec S128x128 1 := andi main_v14 main_v16
  let main_c_3 : IVec S_ 1 := constantI S_ 1 1#1
  fn_part1 (F := F) main_arg2 main_arg3 main_v6 main_v12 main_v17 main_c_3
-- ==== Kernel.lean ====
abbrev S65536x128 : Shape := ⟨2, ![65536, 128]⟩
abbrev S128x128 : Shape := ⟨2, ![128, 128]⟩
abbrev S16 : Shape := ⟨1, ![16]⟩
abbrev S4 : Shape := ⟨1, ![4]⟩
abbrev S32 : Shape := ⟨1, ![32]⟩
abbrev S96 : Shape := ⟨1, ![96]⟩
abbrev S128 : Shape := ⟨1, ![128]⟩
abbrev S128x1 : Shape := ⟨2, ![128, 1]⟩
abbrev S1x128 : Shape := ⟨2, ![1, 128]⟩
abbrev S8192x128 : Shape := ⟨2, ![8192, 128]⟩
abbrev S2048x32 : Shape := ⟨2, ![2048, 32]⟩
abbrev S2048x128 : Shape := ⟨2, ![2048, 128]⟩
abbrev S1 : Shape := ⟨1, ![1]⟩
abbrev S8x128 : Shape := ⟨2, ![8, 128]⟩
abbrev S256x8x128 : Shape := ⟨3, ![256, 8, 128]⟩
abbrev S1x8x128 : Shape := ⟨3, ![1, 8, 128]⟩
abbrev S256x8x128x1 : Shape := ⟨4, ![256, 8, 128, 1]⟩
abbrev S8192x32 : Shape := ⟨2, ![8192, 32]⟩
abbrev S8192x96 : Shape := ⟨2, ![8192, 96]⟩

abbrev nBuf : Space → Nat
  | .hbm => 14
  | .vmem => 6
  | .smem => 2
  | _ => 0

abbrev bufTy : (tb : Table) → Fin (tcTables nBuf tb) → BufTy
  | .hbm, ⟨0, _⟩ => ⟨S65536x128, .f32⟩
  | .hbm, ⟨1, _⟩ => ⟨S128x128, .f32⟩
  | .hbm, ⟨2, _⟩ => ⟨S16, .f32⟩
  | .hbm, ⟨3, _⟩ => ⟨S4, .f32⟩
  | .hbm, ⟨4, _⟩ => ⟨S32, .i32⟩
  | .hbm, ⟨5, _⟩ => ⟨S96, .i32⟩
  | .hbm, ⟨6, _⟩ => ⟨S128, .i32⟩
  | .hbm, ⟨7, _⟩ => ⟨S128x1, .i32⟩
  | .hbm, ⟨8, _⟩ => ⟨S1x128, .i32⟩
  | .hbm, ⟨9, _⟩ => ⟨S128x128, .i32⟩
  | .hbm, ⟨10, _⟩ => ⟨S128x128, .i32⟩
  | .hbm, ⟨11, _⟩ => ⟨S128x128, .i1⟩
  | .hbm, ⟨12, _⟩ => ⟨S128x128, .f32⟩
  | .hbm, ⟨13, _⟩ => ⟨S65536x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S128x128, .f32⟩
  | .local _ .vmem, ⟨4, _⟩ => ⟨S8192x128, .f32⟩
  | .local _ .vmem, ⟨5, _⟩ => ⟨S8192x128, .f32⟩
  | .local _ .smem, ⟨0, _⟩ => ⟨S16, .f32⟩
  | .local _ .smem, ⟨1, _⟩ => ⟨S4, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg3_0 : Ref sig .tc := ⟨.smem, 0, rfl⟩
abbrev cc0_stg4_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S65536x128 : Shape := ⟨2, ![65536, 128]⟩
abbrev S128x128 : Shape := ⟨2, ![128, 128]⟩
abbrev S16 : Shape := ⟨1, ![16]⟩
abbrev S4 : Shape := ⟨1, ![4]⟩
abbrev S32 : Shape := ⟨1, ![32]⟩
abbrev S96 : Shape := ⟨1, ![96]⟩
abbrev S_ : Shape := ⟨0, ![]⟩
abbrev S32x1 : Shape := ⟨2, ![32, 1]⟩
abbrev S65536x32 : Shape := ⟨2, ![65536, 32]⟩
abbrev S96x1 : Shape := ⟨2, ![96, 1]⟩
abbrev S65536x96 : Shape := ⟨2, ![65536, 96]⟩
abbrev S65536x32x1 : Shape := ⟨3, ![65536, 32, 1]⟩
abbrev S1x1x16 : Shape := ⟨3, ![1, 1, 16]⟩
abbrev S65536x32x16 : Shape := ⟨3, ![65536, 32, 16]⟩
abbrev S65536x96x1 : Shape := ⟨3, ![65536, 96, 1]⟩
abbrev S1x1x4 : Shape := ⟨3, ![1, 1, 4]⟩
abbrev S65536x96x4 : Shape := ⟨3, ![65536, 96, 4]⟩
abbrev S1 : Shape := ⟨1, ![1]⟩
abbrev S1x1x1 : Shape := ⟨3, ![1, 1, 1]⟩

abbrev nBuf : Space → Nat
  | .hbm => 113
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S128x128, .f32⟩
  | .hbm, ⟨2, _⟩ => ⟨S16, .f32⟩
  | .hbm, ⟨3, _⟩ => ⟨S4, .f32⟩
  | .hbm, ⟨4, _⟩ => ⟨S32, .i32⟩
  | .hbm, ⟨5, _⟩ => ⟨S96, .i32⟩
  | .hbm, ⟨6, _⟩ => ⟨S128x128, .f32⟩
  | .hbm, ⟨7, _⟩ => ⟨S65536x128, .f32⟩
  | .hbm, ⟨8, _⟩ => ⟨S_, .i32⟩
  | .hbm, ⟨9, _⟩ => ⟨S32, .i32⟩
  | .hbm, ⟨10, _⟩ => ⟨S32, .i1⟩
  | .hbm, ⟨11, _⟩ => ⟨S_, .i32⟩
  | .hbm, ⟨12, _⟩ => ⟨S32, .i32⟩
  | .hbm, ⟨13, _⟩ => ⟨S32, .i32⟩
  | .hbm, ⟨14, _⟩ => ⟨S32, .i32⟩
  | .hbm, ⟨15, _⟩ => ⟨S32x1, .i32⟩
  | .hbm, ⟨16, _⟩ => ⟨S65536x32, .f32⟩
  | .hbm, ⟨17, _⟩ => ⟨S_, .i32⟩
  | .hbm, ⟨18, _⟩ => ⟨S96, .i32⟩
  | .hbm, ⟨19, _⟩ => ⟨S96, .i1⟩
  | .hbm, ⟨20, _⟩ => ⟨S_, .i32⟩
  | .hbm, ⟨21, _⟩ => ⟨S96, .i32⟩
  | .hbm, ⟨22, _⟩ => ⟨S96, .i32⟩
  | .hbm, ⟨23, _⟩ => ⟨S96, .i32⟩
  | .hbm, ⟨24, _⟩ => ⟨S96x1, .i32⟩
  | .hbm, ⟨25, _⟩ => ⟨S65536x96, .f32⟩
  | .hbm, ⟨26, _⟩ => ⟨S65536x32x1, .f32⟩
  | .hbm, ⟨27, _⟩ => ⟨S1x1x16, .f32⟩
  | .hbm, ⟨28, _⟩ => ⟨S65536x32x16, .f32⟩
  | .hbm, ⟨29, _⟩ => ⟨S65536x32x16, .f32⟩
  | .hbm, ⟨30, _⟩ => ⟨S65536x32x16, .f32⟩
  | .hbm, ⟨31, _⟩ => ⟨S65536x32x16, .f32⟩
  | .hbm, ⟨32, _⟩ => ⟨S65536x32x16, .i32⟩
  | .hbm, ⟨33, _⟩ => ⟨S_, .f32⟩
  | .hbm, ⟨34, _⟩ => ⟨S_, .i32⟩
  | .hbm, ⟨35, _⟩ => ⟨S65536x32, .f32⟩
  | .hbm, ⟨36, _⟩ => ⟨S65536x32, .i32⟩
  | .hbm, ⟨37, _⟩ => ⟨S65536x96x1, .f32⟩
  | .hbm, ⟨38, _⟩ => ⟨S1x1x4, .f32⟩
  | .hbm, ⟨39, _⟩ => ⟨S65536x96x4, .f32⟩
  | .hbm, ⟨40, _⟩ => ⟨S65536x96x4, .f32⟩
  | .hbm, ⟨41, _⟩ => ⟨S65536x96x4, .f32⟩
  | .hbm, ⟨42, _⟩ => ⟨S65536x96x4, .f32⟩
  | .hbm, ⟨43, _⟩ => ⟨S65536x96x4, .i32⟩
  | .hbm, ⟨44, _⟩ => ⟨S_, .f32⟩
  | .hbm, ⟨45, _⟩ => ⟨S_, .i32⟩
  | .hbm, ⟨46, _⟩ => ⟨S65536x96, .f32⟩
  | .hbm, ⟨47, _⟩ => ⟨S65536x96, .i32⟩
  | .hbm, ⟨48, _⟩ => ⟨S_, .i32⟩
  | .hbm, ⟨49, _⟩ => ⟨S65536x32, .i32⟩
  | .hbm, ⟨50, _⟩ => ⟨S65536x32, .i1⟩
  | .hbm, ⟨51, _⟩ => ⟨S_, .i32⟩
  | .hbm, ⟨52, _⟩ => ⟨S65536x32, .i32⟩
  | .hbm, ⟨53, _⟩ => ⟨S65536x32, .i32⟩
  | .hbm, ⟨54, _⟩ => ⟨S65536x32, .i32⟩
  | .hbm, ⟨55, _⟩ => ⟨S65536x32x1, .i32⟩
  | .hbm, ⟨56, _⟩ => ⟨S1, .i32⟩
  | .hbm, ⟨57, _⟩ => ⟨S_, .i32⟩
  | .hbm, ⟨58, _⟩ => ⟨S65536x32x1, .i32⟩
  | .hbm, ⟨59, _⟩ => ⟨S65536x32x1, .i1⟩
  | .hbm, ⟨60, _⟩ => ⟨S1x1x1, .i32⟩
  | .hbm, ⟨61, _⟩ => ⟨S65536x32x1, .i32⟩
  | .hbm, ⟨62, _⟩ => ⟨S65536x32x1, .i1⟩
  | .hbm, ⟨63, _⟩ => ⟨S65536x32x1, .i1⟩
  | .hbm, ⟨64, _⟩ => ⟨S_, .i1⟩
  | .hbm, ⟨65, _⟩ => ⟨S65536x32, .i1⟩
  | .hbm, ⟨66, _⟩ => ⟨S65536x32, .f32⟩
  | .hbm, ⟨67, _⟩ => ⟨S_, .f32⟩
  | .hbm, ⟨68, _⟩ => ⟨S65536x32, .f32⟩
  | .hbm, ⟨69, _⟩ => ⟨S65536x32, .f32⟩
  | .hbm, ⟨70, _⟩ => ⟨S_, .i32⟩
  | .hbm, ⟨71, _⟩ => ⟨S65536x96, .i32⟩
  | .hbm, ⟨72, _⟩ => ⟨S65536x96, .i1⟩
  | .hbm, ⟨73, _⟩ => ⟨S_, .i32⟩
  | .hbm, ⟨74, _⟩ => ⟨S65536x96, .i32⟩
  | .hbm, ⟨75, _⟩ => ⟨S65536x96, .i32⟩
  | .hbm, ⟨76, _⟩ => ⟨S65536x96, .i32⟩
  | .hbm, ⟨77, _⟩ => ⟨S65536x96x1, .i32⟩
  | .hbm, ⟨78, _⟩ => ⟨S1, .i32⟩
  | .hbm, ⟨79, _⟩ => ⟨S_, .i32⟩
  | .hbm, ⟨80, _⟩ => ⟨S65536x96x1, .i32⟩
  | .hbm, ⟨81, _⟩ => ⟨S65536x96x1, .i1⟩
  | .hbm, ⟨82, _⟩ => ⟨S1x1x1, .i32⟩
  | .hbm, ⟨83, _⟩ => ⟨S65536x96x1, .i32⟩
  | .hbm, ⟨84, _⟩ => ⟨S65536x96x1, .i1⟩
  | .hbm, ⟨85, _⟩ => ⟨S65536x96x1, .i1⟩
  | .hbm, ⟨86, _⟩ => ⟨S_, .i1⟩
  | .hbm, ⟨87, _⟩ => ⟨S65536x96, .i1⟩
  | .hbm, ⟨88, _⟩ => ⟨S65536x96, .f32⟩
  | .hbm, ⟨89, _⟩ => ⟨S_, .f32⟩
  | .hbm, ⟨90, _⟩ => ⟨S65536x96, .f32⟩
  | .hbm, ⟨91, _⟩ => ⟨S65536x96, .f32⟩
  | .hbm, ⟨92, _⟩ => ⟨S_, .f32⟩
  | .hbm, ⟨93, _⟩ => ⟨S65536x128, .f32⟩
  | .hbm, ⟨94, _⟩ => ⟨S_, .i32⟩
  | .hbm, ⟨95, _⟩ => ⟨S32, .i32⟩
  | .hbm, ⟨96, _⟩ => ⟨S32, .i1⟩
  | .hbm, ⟨97, _⟩ => ⟨S_, .i32⟩
  | .hbm, ⟨98, _⟩ => ⟨S32, .i32⟩
  | .hbm, ⟨99, _⟩ => ⟨S32, .i32⟩
  | .hbm, ⟨100, _⟩ => ⟨S32, .i32⟩
  | .hbm, ⟨101, _⟩ => ⟨S32x1, .i32⟩
  | .hbm, ⟨102, _⟩ => ⟨S65536x128, .f32⟩
  | .hbm, ⟨103, _⟩ => ⟨S_, .i32⟩
  | .hbm, ⟨104, _⟩ => ⟨S96, .i32⟩
  | .hbm, ⟨105, _⟩ => ⟨S96, .i1⟩
  | .hbm, ⟨106, _⟩ => ⟨S_, .i32⟩
  | .hbm, ⟨107, _⟩ => ⟨S96, .i32⟩
  | .hbm, ⟨108, _⟩ => ⟨S96, .i32⟩
  | .hbm, ⟨109, _⟩ => ⟨S96, .i32⟩
  | .hbm, ⟨110, _⟩ => ⟨S96x1, .i32⟩
  | .hbm, ⟨111, _⟩ => ⟨S65536x128, .f32⟩
  | .hbm, ⟨112, _⟩ => ⟨S65536x128, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_1 : Ref sig .tc := ⟨.hbm, 17, rfl⟩
abbrev main_v9 : Ref sig .tc := ⟨.hbm, 18, rfl⟩
abbrev main_v10 : Ref sig .tc := ⟨.hbm, 19, rfl⟩
abbrev main_c_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_cst : Ref sig .tc := ⟨.hbm, 33, rfl⟩
abbrev main_call0_c : Ref sig .tc := ⟨.hbm, 34, rfl⟩
abbrev main_call0_v1_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_v0 : Ref sig .tc := ⟨.hbm, 43, rfl⟩
abbrev main_call1_cst : Ref sig .tc := ⟨.hbm, 44, rfl⟩
abbrev main_call1_c : Ref sig .tc := ⟨.hbm, 45, rfl⟩
abbrev main_call1_v1_0 : Ref sig .tc := ⟨.hbm, 46, rfl⟩
abbrev main_v29 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_cst : Ref sig .tc := ⟨.hbm, 67, rfl⟩
abbrev main_call2_v14 : Ref sig .tc := ⟨.hbm, 68, rfl⟩
abbrev main_v30 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_cst : Ref sig .tc := ⟨.hbm, 89, rfl⟩
abbrev main_call3_v14 : Ref sig .tc := ⟨.hbm, 90, rfl⟩
abbrev main_v31 : Ref sig .tc := ⟨.hbm, 91, rfl⟩
abbrev main_cst : Ref sig .tc := ⟨.hbm, 92, rfl⟩
abbrev main_v32 : Ref sig .tc := ⟨.hbm, 93, rfl⟩
abbrev main_c_3 : Ref sig .tc := ⟨.hbm, 94, rfl⟩
abbrev main_v33 : Ref sig .tc := ⟨.hbm, 95, rfl⟩
abbrev main_v34 : Ref sig .tc := ⟨.hbm, 96, rfl⟩
abbrev main_c_4 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_c_5 : Ref sig .tc := ⟨.hbm, 103, rfl⟩
abbrev main_v40 : Ref sig .tc := ⟨.hbm, 104, rfl⟩
abbrev main_v41 : Ref sig .tc := ⟨.hbm, 105, rfl⟩
abbrev main_c_6 : Ref sig .tc := ⟨.hbm, 106, rfl⟩
abbrev main_v42 : Ref sig .tc := ⟨.hbm, 107, rfl⟩
abbrev main_v43 : Ref sig .tc := ⟨.hbm, 108, rfl⟩
abbrev main_v44 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩

abbrev nD : Nat := 1
abbrev τ : Topo := Topo.v7x

variable {F : FTy → Type} [FloatOps F]
-- ==== Proof.KBody.lean ====
/- What the kernel's body leaves in its output block: one pure function of the five blocks it loads. -/
module

public import proofs.«01_k».proof.Proof.Gen.KernelIdeal.Frame
public import Idealize.ShloMosaic.Lib.Pipeline.Value
public import Idealize.ShloMosaic.Lib.Pipeline.ValueKit.Tiles
public import Idealize.ShloMosaic.Lib.ValueIdx
public import Idealize.ShloMosaic.Lib.Pointwise
public import Idealize.ShloMosaic.Lib.Tactic

@[expose] public section

noncomputable section

namespace Cert.KBody

open Cert.KernelIdeal Cert.KernelIdeal.Gen Idealize.ShloMosaic Idealize.ShloMosaic.TcCoe Idealize.ShloMosaic.ValueIdx Idealize.SL.Sem

variable {F : FTy → Type} [FloatOps F]

/-! ## One element: the two threshold searches -/

/-- The threshold between two neighbouring centroids: half their sum. -/
def mid (a b : F .f32) : F .f32 := Scalar.mulf (Scalar.ofBits .f32 0x3F000000#32) (Scalar.addf a b)

/-- The bit "the first exceeds the second". -/
def gt (a b : F .f32) : BitVec 1 := FloatOps.cmpf .ogt a b

/-- The first bit of the 16-level search: beyond the middle threshold. -/
def bit3 (h : Fin 16 → F .f32) (y : F .f32) : BitVec 1 := gt y (mid (h 7) (h 8))

/-- The second bit: beyond the middle of the half found. -/
def bit2 (h : Fin 16 → F .f32) (y : F .f32) : BitVec 1 :=
  gt y (Scalar.select (bit3 h y) (mid (h 11) (h 12)) (mid (h 3) (h 4)))

/-- The third bit: beyond the middle of the quarter found. -/
def bit1 (h : Fin 16 → F .f32) (y : F .f32) : BitVec 1 :=
  gt y (Scalar.select (bit3 h y) (Scalar.select (bit2 h y) (mid (h 13) (h 14)) (mid (h 9) (h 10)))
    (Scalar.select (bit2 h y) (mid (h 5) (h 6)) (mid (h 1) (h 2))))

/-- The last bit: beyond the threshold inside the pair found. -/
def bit0 (h : Fin 16 → F .f32) (y : F .f32) : BitVec 1 :=
  gt y (Scalar.select (bit3 h y)
    (Scalar.select (bit2 h y) (Scalar.select (bit1 h y) (mid (h 14) (h 15)) (mid (h 12) (h 13)))
      (Scalar.select (bit1 h y) (mid (h 10) (h 11)) (mid (h 8) (h 9))))
    (Scalar.select (bit2 h y) (Scalar.select (bit1 h y) (mid (h 6) (h 7)) (mid (h 4) (h 5)))
      (Scalar.select (bit1 h y) (mid (h 2) (h 3)) (mid (h 0) (h 1)))))

/-- The three lower bits as a word below 8. -/
def word (h : Fin 16 → F .f32) (y : F .f32) : BitVec 32 :=
  IntOp.addi (IntOp.addi (Scalar.select (bit2 h y) 4#32 0#32) (Scalar.select (bit1 h y) 2#32 0#32)) (Scalar.select (bit0 h y) 1#32 0#32)

/-- The word is below 8. -/
theorem word_lt (h : Fin 16 → F .f32) (y : F .f32) : (word h y).toNat < 8 := by
  unfold word
  rcases BitVec.eq_zero_or_eq_one (bit2 h y) with e2 | e2 <;> rcases BitVec.eq_zero_or_eq_one (bit1 h y) with e1 | e1 <;>
    rcases BitVec.eq_zero_or_eq_one (bit0 h y) with e0 | e0 <;> rw [e2, e1, e0] <;> decide

/-- The 16-level search's centroid: the lower three bits pick within the half that the first bit picks. -/
def search16 (h : Fin 16 → F .f32) (y : F .f32) : F .f32 :=
  Scalar.select (bit3 h y) (h ⟨8 + (word h y).toNat, by have := word_lt h y; omega⟩) (h ⟨(word h y).toNat, by have := word_lt h y; omega⟩)

/-- The 4-level search's centroid. -/
def search4 (l : Fin 4 → F .f32) (y : F .f32) : F .f32 :=
  Scalar.select (gt y (mid (l 1) (l 2)))
    (Scalar.select (gt y (Scalar.select (gt y (mid (l 1) (l 2))) (mid (l 2) (l 3)) (mid (l 0) (l 1)))) (l 3) (l 2))
    (Scalar.select (gt y (Scalar.select (gt y (mid (l 1) (l 2))) (mid (l 2) (l 3)) (mid (l 0) (l 1)))) (l 1) (l 0))

/-! ## The body's intermediate vectors over the sixteen centroid words -/

/-- The packed vector of first bits. -/
def v3bits (Y : FVec F S2048x128 .f32) (h : Fin 16 → F .f32) : IVec S2048x128 1 := fun j => bit3 h (Y j)

/-- The gather's index words, regrouped eight rows at a time. -/
def words (Y : FVec F S2048x128 .f32) (h : Fin 16 → F .f32) : IVec S256x8x128 32 :=
  shapeCast S256x8x128 (fun j => word h (Y j) : IVec S2048x128 32) shapeCasts_S2048x128_S256x8x128

/-- The first bits, from the body's own operations. -/
theorem pay9_eq (Y : FVec F S2048x128 .f32) (h : Fin 16 → F .f32) : k0_pay9 Y (h 7) (h 8) = v3bits Y h := rfl

/-- The index words, from the body's own operations. -/
theorem pay15_eq (Y : FVec F S2048x128 .f32) (h : Fin 16 → F .f32) :
    k0_pay15 Y (k0_pay5 (h 0) (h 1)) (k0_pay8 (k0_pay7 (h 2) (h 3)) (FloatOps.ofBits FTy.f32 0x3F000000#32)) (k0_pay9 Y (h 7) (h 8))
      (k0_pay10 Y (h 3) (h 4) (h 7) (h 8) (h 11) (h 12))
      (k0_pay11 Y (h 3) (h 4) (h 5) (h 6) (h 7) (h 8) (h 9) (h 10) (h 11) (h 12) (h 13) (h 14) (k0_pay6 (h 1) (h 2)))
      (k0_pay12 Y (h 3) (h 4) (h 5) (h 6) (h 7) (h 8) (h 9) (h 10) (h 11) (h 12) (h 13) (h 14) (h 15) (k0_pay6 (h 1) (h 2)))
      (k0_pay13 (h 6) (h 7)) (k0_pay14 (h 4) (h 5)) = words Y h := rfl

/-- Eight words broadcast to a row each: one table of half the centroids. -/
def table (g : Fin 8 → F .f32) : FVec F S256x8x128 .f32 :=
  broadcastTo S256x8x128 (shapeCast S1x8x128 (shapeCast S1x8x128 (concatenate S8x128 0 [⟨S1x128, broadcast S1x128 (g 0)⟩, ⟨S1x128, broadcast S1x128 (g 1)⟩,
    ⟨S1x128, broadcast S1x128 (g 2)⟩, ⟨S1x128, broadcast S1x128 (g 3)⟩, ⟨S1x128, broadcast S1x128 (g 4)⟩, ⟨S1x128, broadcast S1x128 (g 5)⟩,
    ⟨S1x128, broadcast S1x128 (g 6)⟩, ⟨S1x128, broadcast S1x128 (g 7)⟩] concatenates_S1x128_S1x128_S1x128_S1x128_S1x128_S1x128_S1x128_S1x128_S8x128_d0)
    shapeCasts_S8x128_S1x8x128) shapeCasts_S1x8x128_S1x8x128) broadcasts_S1x8x128_S256x8x128

/-- The gather's words with a negative one taken from the end. -/
def wrapped (w : IVec S256x8x128 32) : IVec S256x8x128 32 :=
  shapeCast S256x8x128 (shapeCast S256x8x128x1 (select (cmpi .slt w (broadcast S256x8x128 0#32)) (addi w (broadcast S256x8x128 8#32)) w)
    shapeCasts_S256x8x128_S256x8x128x1) shapeCasts_S256x8x128x1_S256x8x128

/-- A table looked up at the packed words. -/
def looked (g : Fin 8 → F .f32) (w : IVec S256x8x128 32) : FVec F S2048x128 .f32 :=
  shapeCast S2048x128 (dynamicGather 1 (table g) (wrapped w)) shapeCasts_S256x8x128_S2048x128

/-- The packed vector of 16-level centroids. -/
def packed (Y : FVec F S2048x128 .f32) (h : Fin 16 → F .f32) : FVec F S2048x128 .f32 :=
  select (v3bits Y h) (looked (fun n => h ⟨8 + n.val, by omega⟩) (words Y h)) (looked (fun n => h ⟨n.val, by omega⟩) (words Y h))

/-- The four quarters of the packed vector set one under another. -/
def unpack (z : FVec F S2048x128 .f32) : FVec F S8192x32 .f32 :=
  concatenate S8192x32 0 [⟨S2048x32, extractStridedSlice S2048x32 ![0, 0] z slices_S2048x128_o0_0_S2048x32⟩, ⟨S2048x32, extractStridedSlice S2048x32 ![0, 32] z slices_S2048x128_o0_32_S2048x32⟩,
    ⟨S2048x32, extractStridedSlice S2048x32 ![0, 64] z slices_S2048x128_o0_64_S2048x32⟩, ⟨S2048x32, extractStridedSlice S2048x32 ![0, 96] z slices_S2048x128_o0_96_S2048x32⟩]
    concatenates_S2048x32_S2048x32_S2048x32_S2048x32_S8192x32_d0

/-- The quantised block: 16-level centroids in the first 32 columns, 4-level ones in the rest. -/
def quantised (y : FVec F S8192x128 .f32) (z : FVec F S2048x128 .f32) (l : Fin 4 → F .f32) : FVec F S8192x128 .f32 :=
  concatenate S8192x128 1 [⟨S8192x32, unpack z⟩, ⟨S8192x96, extractStridedSlice S8192x96 ![0, 32] (fun j => search4 l (y j) : FVec F S8192x128 .f32) slices_S8192x128_o0_32_S8192x96⟩]
    concatenates_S8192x32_S8192x96_S8192x128_d1

/-- The block the body stores: the rows of `x0` turned by the permuted rotation, quantised, and turned back. -/
def body (x0 : FVec F S8192x128 .f32) (x1 x2 : FVec F S128x128 .f32) (h : Fin 16 → F .f32) (l : Fin 4 → F .f32) : FVec F S8192x128 .f32 :=
  matmul dot_S8192x128_S128x128_S8192x128_1_0_0_1_n_n none
    (quantised (k0_pay3 x1 x2 x0) (packed (k0_pay4 x1 x2 x0) h) l) (k0_pay2 x1 x2) (constant S8192x128 .f32 0x00000000#32)

/-- The lower half's table looked up, from the body's own operations. -/
theorem pay16_eq (Y : FVec F S2048x128 .f32) (h : Fin 16 → F .f32) :
    k0_pay16 Y (h 0) (h 1) (h 2) (h 3) (h 4) (h 5) (h 6) (h 7) (k0_pay5 (h 0) (h 1)) (k0_pay8 (k0_pay7 (h 2) (h 3)) (FloatOps.ofBits FTy.f32 0x3F000000#32)) (k0_pay9 Y (h 7) (h 8))
      (k0_pay10 Y (h 3) (h 4) (h 7) (h 8) (h 11) (h 12))
      (k0_pay11 Y (h 3) (h 4) (h 5) (h 6) (h 7) (h 8) (h 9) (h 10) (h 11) (h 12) (h 13) (h 14) (k0_pay6 (h 1) (h 2)))
      (k0_pay12 Y (h 3) (h 4) (h 5) (h 6) (h 7) (h 8) (h 9) (h 10) (h 11) (h 12) (h 13) (h 14) (h 15) (k0_pay6 (h 1) (h 2)))
      (k0_pay13 (h 6) (h 7)) (k0_pay14 (h 4) (h 5)) = dynamicGather 1 (table (fun n => h ⟨n.val, by omega⟩)) (wrapped (words Y h)) := by
  unfold k0_pay16
  rw [pay15_eq]
  rfl

/-- The stored block, from the body's own operations. -/
theorem pay1_eq (x0 : FVec F S8192x128 .f32) (x1 x2 : FVec F S128x128 .f32) (h : Fin 16 → F .f32) (l : Fin 4 → F .f32) :
    k0_pay1 (k0_pay2 x1 x2) (k0_pay3 x1 x2 x0) (k0_pay9 (k0_pay4 x1 x2 x0) (h 7) (h 8))
      (k0_pay15 (k0_pay4 x1 x2 x0) (k0_pay5 (h 0) (h 1)) (k0_pay8 (k0_pay7 (h 2) (h 3)) (FloatOps.ofBits FTy.f32 0x3F000000#32)) (k0_pay9 (k0_pay4 x1 x2 x0) (h 7) (h 8))
        (k0_pay10 (k0_pay4 x1 x2 x0) (h 3) (h 4) (h 7) (h 8) (h 11) (h 12))
        (k0_pay11 (k0_pay4 x1 x2 x0) (h 3) (h 4) (h 5) (h 6) (h 7) (h 8) (h 9) (h 10) (h 11) (h 12) (h 13) (h 14) (k0_pay6 (h 1) (h 2)))
        (k0_pay12 (k0_pay4 x1 x2 x0) (h 3) (h 4) (h 5) (h 6) (h 7) (h 8) (h 9) (h 10) (h 11) (h 12) (h 13) (h 14) (h 15) (k0_pay6 (h 1) (h 2)))
        (k0_pay13 (h 6) (h 7)) (k0_pay14 (h 4) (h 5)))
      (k0_pay16 (k0_pay4 x1 x2 x0) (h 0) (h 1) (h 2) (h 3) (h 4) (h 5) (h 6) (h 7) (k0_pay5 (h 0) (h 1)) (k0_pay8 (k0_pay7 (h 2) (h 3)) (FloatOps.ofBits FTy.f32 0x3F000000#32)) (k0_pay9 (k0_pay4 x1 x2 x0) (h 7) (h 8))
        (k0_pay10 (k0_pay4 x1 x2 x0) (h 3) (h 4) (h 7) (h 8) (h 11) (h 12))
        (k0_pay11 (k0_pay4 x1 x2 x0) (h 3) (h 4) (h 5) (h 6) (h 7) (h 8) (h 9) (h 10) (h 11) (h 12) (h 13) (h 14) (k0_pay6 (h 1) (h 2)))
        (k0_pay12 (k0_pay4 x1 x2 x0) (h 3) (h 4) (h 5) (h 6) (h 7) (h 8) (h 9) (h 10) (h 11) (h 12) (h 13) (h 14) (h 15) (k0_pay6 (h 1) (h 2)))
        (k0_pay13 (h 6) (h 7)) (k0_pay14 (h 4) (h 5)))
      (k0_pay17 (h 8) (h 9) (h 10) (h 11) (h 12) (h 13) (h 14) (h 15)) 0#32 (l 0) (l 1) (l 2) (l 3) = body x0 x1 x2 h l := by
  rw [pay15_eq, pay16_eq, pay9_eq]
  rfl

/-- One word read out of a vector of words. -/
theorem ld_word {n : Nat} (x : Vec F (⟨1, ![n]⟩ : Shape) .f32) (k : Nat) (hk : k < n) (inb : ∀ a, (![k] : Fin 1 → Nat) a + (![1] : Fin 1 → Nat) a ≤ (⟨1, ![n]⟩ : Shape).size a)
    (j : Shape.Idx ⟨1, ![1]⟩) : View.ld x (Rect.unit (s := ⟨1, ![n]⟩) ![k] ![1] inb) j = x (ValueIdx.ix1 ⟨k, hk⟩) :=
  View.ld_unit_apply_of x _ _ inb j _ fun a => by
    match a with
    | ⟨0, _⟩ =>
      have : (j 0).val < 1 := (j 0).isLt
      show k = k + (j 0).val
      omega

/-- The all-zero offsets of a rank-2 access. -/
theorem hz : (![0, 0] : Fin 2 → Nat) = fun _ => 0 := funext fun a => by fin_cases a <;> rfl

/-- The body's output block is that function of its five input blocks. -/
theorem out_eq (c : Dev nD) (i : grid0.Coords) (arg1 : Memref sig .tc .vmem S8192x128 .f32) (harg1 : arg1.IsWhole) (arg2 : Memref sig .tc .vmem S128x128 .f32) (harg2 : arg2.IsWhole)
    (arg3 : Memref sig .tc .vmem S128x128 .f32) (harg3 : arg3.IsWhole) (arg4 : Memref sig .tc .smem S16 .f32) (harg4 : arg4.IsWhole) (arg5 : Memref sig .tc .smem S4 .f32) (harg5 : arg5.IsWhole)
    (arg6 : Memref sig .tc .vmem S8192x128 .f32) (harg6 : arg6.IsWhole)
    (x0 : Vec F S8192x128 .f32) (x1 x2 : Vec F S128x128 .f32) (x3 : Vec F S16 .f32) (x4 : Vec F S4 .f32) :
    out0_A_5 c i arg1 harg1 arg2 harg2 arg3 harg3 arg4 harg4 arg5 harg5 arg6 harg6 x0 x1 x2 x3 x4 = body x0 x1 x2 (fun k => x3 (ValueIdx.ix1 k)) (fun k => x4 (ValueIdx.ix1 k)) := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero hz]
  simp only [View.readAt_eq_ld, harg1.read_unread, harg2.read_unread, harg3.read_unread, harg4.read_unread, harg5.read_unread, View.ld_unit_zero (S := S8192x128) hz, View.ld_unit_zero (S := S128x128) hz, shapeCast_self]
  simp only [ld_word (n := 16) x3 0 (by decide), ld_word (n := 16) x3 1 (by decide), ld_word (n := 16) x3 2 (by decide), ld_word (n := 16) x3 3 (by decide), ld_word (n := 16) x3 4 (by decide), ld_word (n := 16) x3 5 (by decide), ld_word (n := 16) x3 6 (by decide), ld_word (n := 16) x3 7 (by decide), ld_word (n := 16) x3 8 (by decide), ld_word (n := 16) x3 9 (by decide), ld_word (n := 16) x3 10 (by decide), ld_word (n := 16) x3 11 (by decide), ld_word (n := 16) x3 12 (by decide), ld_word (n := 16) x3 13 (by decide), ld_word (n := 16) x3 14 (by decide), ld_word (n := 16) x3 15 (by decide), ld_word (n := 4) x4 0 (by decide), ld_word (n := 4) x4 1 (by decide), ld_word (n := 4) x4 2 (by decide), ld_word (n := 4) x4 3 (by decide)]
  exact pay1_eq x0 x1 x2 (fun k => x3 (ValueIdx.ix1 k)) (fun k => x4 (ValueIdx.ix1 k))

end Cert.KBody

end
-- ==== Proof.KSearch.lean ====
/- The quantised block at an index: each element is the centroid its own search finds. -/
module

public import proofs.«01_k».proof.Proof.KBody

@[expose] public section

noncomputable section

namespace Cert.KSearch

open Idealize.ShloMosaic hiding ix1 ix2 ix3
open Cert.KernelIdeal Cert.KernelIdeal.Gen Idealize.ShloMosaic.TcCoe Idealize.ShloMosaic.ValueIdx Cert.KBody

variable {F : FTy → Type} [FloatOps F]

/-- A table's row `b` holds its word `b` in every lane. -/
theorem table_apply (g : Fin 8 → F .f32) (a : Fin 256) (b : Fin 8) (c : Fin 128) : table g (ix3 a b c) = g b := by
  unfold table
  rw [broadcastTo_apply _ _ _ (ix3 (n0 := 1) 0 b c) (fun a => by match a with | ⟨0, _⟩ => rfl | ⟨1, _⟩ => rfl | ⟨2, _⟩ => rfl), shapeCast_self,
    shapeCast_apply _ _ _ (ix2 b c) (by rw [Shape.rowMajor_val_two, Shape.rowMajor_val_three]; simp)]
  exact concatenate_ofFn_unit_apply (s₁ := S1x128) (t := S8x128) (0 : Fin 2) (fun n : Fin 8 => (broadcast S1x128 (g n) : FVec F S1x128 .f32))
    concatenates_S1x128_S1x128_S1x128_S1x128_S1x128_S1x128_S1x128_S1x128_S8x128_d0 rfl rfl (ix2 b c) b rfl (ix2 0 c)
    (fun a ha => by match a with | ⟨0, _⟩ => exact absurd rfl ha | ⟨1, _⟩ => rfl)

/-- A word that is not negative is left as it is. -/
theorem wrapped_apply (w : IVec S256x8x128 32) (j : S256x8x128.Idx) (hw : (w j).toNat < 8) : wrapped w j = w j := by
  unfold wrapped
  have e : ∀ (v : IVec S256x8x128 32), shapeCast S256x8x128 (shapeCast S256x8x128x1 v shapeCasts_S256x8x128_S256x8x128x1) shapeCasts_S256x8x128x1_S256x8x128 = v := by
    intro v
    rw [shapeCast_shapeCast]
  rw [e]
  show Scalar.select (IntOp.cmpi .slt (w j) 0#32) _ _ = _
  have : IntOp.cmpi .slt (w j) 0#32 = 0#1 := by
    have h0 : ¬ (w j).toInt < (0#32 : BitVec 32).toInt := by
      rw [BitVec.toInt_eq_toNat_of_lt (by omega)]; simp
    simp only [IntOp.cmpi, BitVec.slt, decide_eq_false h0]; rfl
  rw [this]; rfl

/-- The index words at a lane: the search's word of that lane's element. -/
theorem words_apply (Y : FVec F S2048x128 .f32) (h : Fin 16 → F .f32) (r : Fin 2048) (c : Fin 128) :
    words Y h (ix3 (n0 := 256) (n1 := 8) ⟨r.val / 8, by omega⟩ ⟨r.val % 8, by omega⟩ c) = word h (Y (ix2 r c)) := by
  unfold words
  rw [shapeCast_apply _ _ _ (ix2 r c) (by
    rw [Shape.rowMajor_val_two, Shape.rowMajor_val_three]
    show r.val * 128 + c.val = (r.val / 8 * 8 + r.val % 8) * 128 + c.val
    omega)]

/-- A table looked up at a lane. -/
theorem looked_apply (g : Fin 8 → F .f32) (Y : FVec F S2048x128 .f32) (h : Fin 16 → F .f32) (r : Fin 2048) (c : Fin 128) :
    looked g (words Y h) (ix2 r c) = g ⟨(word h (Y (ix2 r c))).toNat, word_lt h _⟩ := by
  unfold looked
  rw [shapeCast_apply _ _ _ (ix3 (n0 := 256) (n1 := 8) ⟨r.val / 8, by omega⟩ ⟨r.val % 8, by omega⟩ c)
    (by
      rw [Shape.rowMajor_val_two, Shape.rowMajor_val_three]
      show (r.val / 8 * 8 + r.val % 8) * 128 + c.val = r.val * 128 + c.val
      omega)]
  have hw := words_apply Y h r c
  have hl := word_lt h (Y (ix2 r c))
  rw [dynamicGather_apply, wrapped_apply _ _ (by rw [hw]; exact hl), hw]
  rw [← table_apply g ⟨r.val / 8, by omega⟩ _ c]
  refine congrArg _ (funext fun a => Fin.ext ?_)
  match a with
  | ⟨0, _⟩ => rfl
  | ⟨1, _⟩ => exact Nat.mod_eq_of_lt hl
  | ⟨2, _⟩ => rfl

/-- The packed vector at a lane: the centroid the 16-level search finds for that lane's element. -/
theorem packed_apply (Y : FVec F S2048x128 .f32) (h : Fin 16 → F .f32) (r : Fin 2048) (c : Fin 128) :
    packed Y h (ix2 r c) = search16 h (Y (ix2 r c)) := by
  unfold packed
  rw [select_apply, looked_apply, looked_apply]
  rfl

/-- The packed block: quarter `l / 32`'s row `r`, column `l % 32`, of the block `y`. -/
theorem pay4_apply (x1 x2 : FVec F S128x128 .f32) (x0 : FVec F S8192x128 .f32) (r : Fin 2048) (q : Fin 4) (c : Fin 32) :
    k0_pay4 x1 x2 x0 (ix2 (n1 := 128) r ⟨32 * q.val + c.val, by omega⟩) = k0_pay3 x1 x2 x0 (ix2 (n0 := 8192) (n1 := 128) ⟨2048 * q.val + r.val, by omega⟩ ⟨c.val, by omega⟩) := by
  unfold k0_pay4
  match q with
  | ⟨0, _⟩ =>
    refine Eq.trans (concatenate_apply_piece (t := S2048x128) (1 : Fin 2) _ _ _ 0 (by simp) S2048x32 _ rfl rfl 0 rfl (ix2 r c)
      (fun a ha => by match a with | ⟨0, _⟩ => rfl | ⟨1, _⟩ => exact absurd rfl ha) rfl) ?_
    exact extractStridedSlice_apply _ _ _ _ _ fun a => by match a with | ⟨0, _⟩ => simp | ⟨1, _⟩ => simp
  | ⟨1, _⟩ =>
    refine Eq.trans (concatenate_apply_piece (t := S2048x128) (1 : Fin 2) _ _ _ 1 (by simp) S2048x32 _ rfl rfl 32 rfl (ix2 r c)
      (fun a ha => by match a with | ⟨0, _⟩ => rfl | ⟨1, _⟩ => exact absurd rfl ha) rfl) ?_
    exact extractStridedSlice_apply _ _ _ _ _ fun a => by match a with | ⟨0, _⟩ => simp | ⟨1, _⟩ => simp
  | ⟨2, _⟩ =>
    refine Eq.trans (concatenate_apply_piece (t := S2048x128) (1 : Fin 2) _ _ _ 2 (by simp) S2048x32 _ rfl rfl 64 rfl (ix2 r c)
      (fun a ha => by match a with | ⟨0, _⟩ => rfl | ⟨1, _⟩ => exact absurd rfl ha) rfl) ?_
    exact extractStridedSlice_apply _ _ _ _ _ fun a => by match a with | ⟨0, _⟩ => simp | ⟨1, _⟩ => simp
  | ⟨3, _⟩ =>
    refine Eq.trans (concatenate_apply_piece (t := S2048x128) (1 : Fin 2) _ _ _ 3 (by simp) S2048x32 _ rfl rfl 96 rfl (ix2 r c)
      (fun a ha => by match a with | ⟨0, _⟩ => rfl | ⟨1, _⟩ => exact absurd rfl ha) rfl) ?_
    exact extractStridedSlice_apply _ _ _ _ _ fun a => by match a with | ⟨0, _⟩ => simp | ⟨1, _⟩ => simp

/-- The four quarters set one under another, at a row of one of them. -/
theorem unpack_apply (z : FVec F S2048x128 .f32) (r : Fin 2048) (q : Fin 4) (c : Fin 32) :
    unpack z (ix2 (n0 := 8192) ⟨2048 * q.val + r.val, by omega⟩ c) = z (ix2 (n1 := 128) r ⟨32 * q.val + c.val, by omega⟩) := by
  unfold unpack
  match q with
  | ⟨0, _⟩ =>
    refine Eq.trans (concatenate_apply_piece (t := S8192x32) (0 : Fin 2) _ _ _ 0 (by simp) S2048x32 _ rfl rfl 0 rfl (ix2 r c)
      (fun a ha => by match a with | ⟨0, _⟩ => exact absurd rfl ha | ⟨1, _⟩ => rfl) rfl) ?_
    exact extractStridedSlice_apply _ _ _ _ _ fun a => by match a with | ⟨0, _⟩ => simp | ⟨1, _⟩ => simp
  | ⟨1, _⟩ =>
    refine Eq.trans (concatenate_apply_piece (t := S8192x32) (0 : Fin 2) _ _ _ 1 (by simp) S2048x32 _ rfl rfl 2048 rfl (ix2 r c)
      (fun a ha => by match a with | ⟨0, _⟩ => exact absurd rfl ha | ⟨1, _⟩ => rfl) rfl) ?_
    exact extractStridedSlice_apply _ _ _ _ _ fun a => by match a with | ⟨0, _⟩ => simp | ⟨1, _⟩ => simp
  | ⟨2, _⟩ =>
    refine Eq.trans (concatenate_apply_piece (t := S8192x32) (0 : Fin 2) _ _ _ 2 (by simp) S2048x32 _ rfl rfl 4096 rfl (ix2 r c)
      (fun a ha => by match a with | ⟨0, _⟩ => exact absurd rfl ha | ⟨1, _⟩ => rfl) rfl) ?_
    exact extractStridedSlice_apply _ _ _ _ _ fun a => by match a with | ⟨0, _⟩ => simp | ⟨1, _⟩ => simp
  | ⟨3, _⟩ =>
    refine Eq.trans (concatenate_apply_piece (t := S8192x32) (0 : Fin 2) _ _ _ 3 (by simp) S2048x32 _ rfl rfl 6144 rfl (ix2 r c)
      (fun a ha => by match a with | ⟨0, _⟩ => exact absurd rfl ha | ⟨1, _⟩ => rfl) rfl) ?_
    exact extractStridedSlice_apply _ _ _ _ _ fun a => by match a with | ⟨0, _⟩ => simp | ⟨1, _⟩ => simp

/-- The quantised block at an index: columns below 32 carry the 16-level search's centroid, the others the 4-level
    search's. -/
theorem quantised_apply (x1 x2 : FVec F S128x128 .f32) (x0 : FVec F S8192x128 .f32) (h : Fin 16 → F .f32) (l : Fin 4 → F .f32) (r : Fin 8192) (c : Fin 128) :
    quantised (k0_pay3 x1 x2 x0) (packed (k0_pay4 x1 x2 x0) h) l (ix2 r c)
      = if c.val < 32 then search16 h (k0_pay3 x1 x2 x0 (ix2 r c)) else search4 l (k0_pay3 x1 x2 x0 (ix2 r c)) := by
  unfold quantised
  split
  · rename_i hc
    rw [concatenate_pair_apply_left (s₁ := S8192x32) (s₂ := S8192x96) (t := S8192x128) (1 : Fin 2) _ _ _ _ rfl (ix2 r ⟨c.val, hc⟩)
      (fun b => by match b with | ⟨0, _⟩ => rfl | ⟨1, _⟩ => rfl)]
    have hr : r = ⟨2048 * (⟨r.val / 2048, by omega⟩ : Fin 4).val + (⟨r.val % 2048, by omega⟩ : Fin 2048).val, by dsimp only; omega⟩ :=
      Fin.ext (by dsimp only; omega)
    have e := unpack_apply (packed (k0_pay4 x1 x2 x0) h) ⟨r.val % 2048, by omega⟩ ⟨r.val / 2048, by omega⟩ ⟨c.val, hc⟩
    rw [packed_apply, pay4_apply] at e
    rw [← hr] at e
    exact e
  · rename_i hc
    rw [concatenate_pair_apply_right (s₁ := S8192x32) (s₂ := S8192x96) (t := S8192x128) (1 : Fin 2) _ _ _ _ rfl rfl
      (ix2 r ⟨c.val - 32, by have := c.isLt; omega⟩)
      (fun b hb => by match b with | ⟨0, _⟩ => rfl | ⟨1, _⟩ => exact absurd rfl hb) (by show c.val - 32 + 32 = c.val; omega)]
    refine extractStridedSlice_apply (s := S8192x128) (t := S8192x96) _ _ _ _ (ix2 r c) fun a => ?_
    match a with
    | ⟨0, _⟩ => simp
    | ⟨1, _⟩ => show c.val = 32 + (c.val - 32); omega

end Cert.KSearch

end
-- ==== Proof.KValue.lean ====
/- The body's output block over the extended reals, at an index. -/
module

public import proofs.«01_k».proof.Proof.KSearch
public import Idealize.ShloMosaic.PureOps.Ideal.Laws

@[expose] public section

noncomputable section

open scoped BigOperators

namespace Cert.KValue

open Idealize.ShloMosaic hiding ix1 ix2 ix3
open Cert.KernelIdeal Cert.KernelIdeal.Gen Idealize.ShloMosaic.TcCoe Idealize.ShloMosaic.ValueIdx Cert.KBody Cert.KSearch

/-- Entry `(k, d)` of the permuted rotation: row `k` of the one-hot matrix times the rotation. -/
def turned (P Pi : Fin 128 → Fin 128 → EReal) (k d : Fin 128) : EReal := ∑ c : Fin 128, P k c * Pi c d

/-- Coordinate `k` of a row: the row times row `k` of the permuted rotation. -/
def coord (P Pi : Fin 128 → Fin 128 → EReal) (x : Fin 128 → EReal) (k : Fin 128) : EReal := ∑ c : Fin 128, x c * turned P Pi k c

/-- The centroid chosen for coordinate `k` of a row. -/
def level (h : Fin 16 → EReal) (l : Fin 4 → EReal) (k : Fin 128) (y : EReal) : EReal :=
  if k.val < 32 then search16 (F := Ideal) h y else search4 (F := Ideal) l y

/-- Element `d` of the row the kernel returns for the row `x`. -/
def rowOut (P Pi : Fin 128 → Fin 128 → EReal) (h : Fin 16 → EReal) (l : Fin 4 → EReal) (x : Fin 128 → EReal) (d : Fin 128) : EReal :=
  ∑ k : Fin 128, level h l k (coord P Pi x k) * turned P Pi k d

/-- The permuted rotation, as the body computes it. -/
theorem pay2_apply (x1 x2 : FVec Ideal S128x128 .f32) (k d : Fin 128) :
    k0_pay2 (F := Ideal) x1 x2 (ix2 k d) = turned (fun a b => x1 (ix2 a b)) (fun a b => x2 (ix2 a b)) k d := by
  unfold k0_pay2
  rw [shapeCast_self]
  refine (Ideal.matmul_constant_zero_apply _ _ _ _ _).trans ?_
  rw [DotDims.sum_contr₁ _ (a := (1 : Fin 2)) rfl (K := 128) rfl]
  refine Finset.sum_congr rfl fun c _ => congrArg₂ _ (congrArg x1 (funext fun a => ?_)) (congrArg x2 (funext fun a => ?_)) <;>
    match a with | ⟨0, _⟩ => rfl | ⟨1, _⟩ => rfl

/-- The rotated rows, as the body computes them. -/
theorem pay3_apply (x1 x2 : FVec Ideal S128x128 .f32) (x0 : FVec Ideal S8192x128 .f32) (r : Fin 8192) (k : Fin 128) :
    k0_pay3 (F := Ideal) x1 x2 x0 (ix2 r k) = coord (fun a b => x1 (ix2 a b)) (fun a b => x2 (ix2 a b)) (fun c => x0 (ix2 r c)) k := by
  unfold k0_pay3
  refine (Ideal.matmul_constant_zero_apply _ _ _ _ _).trans ?_
  rw [DotDims.sum_contr₁ _ (a := (1 : Fin 2)) rfl (K := 128) rfl]
  refine Finset.sum_congr rfl fun c _ => congrArg₂ _ (congrArg x0 (funext fun a => ?_)) ?_
  · match a with | ⟨0, _⟩ => rfl | ⟨1, _⟩ => rfl
  · rw [← pay2_apply]
    refine congrArg _ (funext fun a => ?_)
    match a with | ⟨0, _⟩ => rfl | ⟨1, _⟩ => rfl

/-- The stored block at an index. -/
theorem body_apply (x0 : FVec Ideal S8192x128 .f32) (x1 x2 : FVec Ideal S128x128 .f32) (h : Fin 16 → EReal) (l : Fin 4 → EReal) (r : Fin 8192) (d : Fin 128) :
    body (F := Ideal) x0 x1 x2 h l (ix2 r d)
      = rowOut (fun a b => x1 (ix2 a b)) (fun a b => x2 (ix2 a b)) h l (fun c => x0 (ix2 r c)) d := by
  unfold body
  refine (Ideal.matmul_constant_zero_apply _ _ _ _ _).trans ?_
  rw [DotDims.sum_contr₁ _ (a := (1 : Fin 2)) rfl (K := 128) rfl]
  refine Finset.sum_congr rfl fun k _ => congrArg₂ _ ?_ ?_
  · refine Eq.trans (congrArg _ (?_ : _ = ix2 r k)) ((quantised_apply (F := Ideal) x1 x2 x0 h l r k).trans (by rw [pay3_apply]; rfl))
    funext a
    match a with | ⟨0, _⟩ => rfl | ⟨1, _⟩ => rfl
  · rw [← pay2_apply]
    refine congrArg _ (funext fun a => ?_)
    match a with | ⟨0, _⟩ => rfl | ⟨1, _⟩ => rfl

end Cert.KValue

end
-- ==== Proof.KArray.lean ====
/- What the kernel's output array holds: row `r` is the row function of row `r` of the input. -/
module

public import proofs.«01_k».proof.Proof.KValue
public import proofs.«01_k».proof.Proof.Gen.KernelIdeal.Value
public import Idealize.ShloMosaic.Lib.Pipeline.ValueKit
public import Idealize.ShloMosaic.Lib.Claim

@[expose] public section

noncomputable section

open scoped BigOperators

namespace Cert.KArray

open Idealize.ShloMosaic hiding ix1 ix2 ix3
open Cert.KernelIdeal Cert.KernelIdeal.Gen Idealize.ShloMosaic.TcCoe Idealize.ShloMosaic.ValueIdx Cert.KBody Cert.KValue Idealize.SL.Sem

variable (m : (ℓ : Loc nD τ sig) → Buf (Elt Ideal) ℓ) (ρ : Dev nD → PrngReg)

/-- The channel order: the high-precision channels, then the others. -/
def order (hi : IVec S32 32) (li : IVec S96 32) : IVec S128 32 := concatenate S128 0 [⟨S32, hi⟩, ⟨S96, li⟩] concatenates_S32_S96_S128_d0

/-- The one-hot matrix of the channel order. -/
def oneHot (hi : IVec S32 32) (li : IVec S96 32) : FVec Ideal S128x128 .f32 :=
  uitofp .f32 (cmpi .eq (broadcastInDim S128x128 ![0, 1] bcast_S128x1_S128x128_0_1 (broadcastInDim S128x1 ![0] bcast_S128_S128x1_0 (order hi li)))
    (broadcastInDim S128x128 ![0, 1] bcast_S1x128_S128x128_0_1 (iotaInDim S1x128 32 1)))

/-- The whole output from the six arguments. -/
def outArr (x : FVec Ideal S65536x128 .f32) (p : FVec Ideal S128x128 .f32) (hc : FVec Ideal S16 .f32) (lc : FVec Ideal S4 .f32)
    (hi : IVec S32 32) (li : IVec S96 32) : FVec Ideal S65536x128 .f32 := fun j =>
  rowOut (fun a b => oneHot hi li (ix2 a b)) (fun a b => p (ix2 a b)) (fun k => hc (ix1 k)) (fun k => lc (ix1 k)) (fun c => x (ix2 (j 0) c)) (j 1)

/-- What the region reads as its one-hot operand. -/
theorem V_oneHot (c : Dev nD) : V m c main_v1 = oneHot (m ((c : Thread nD τ).loc main_arg4)) (m ((c : Thread nD τ).loc main_arg5)) := by
  entry_read
  rfl

/-- The input's block number at a point. -/
theorem index0 : ∀ t : Fin grid0.N, win0_0.index t 0 = t.val ∧ win0_0.index t 1 = 0 := by decide +kernel

/-- The one-hot operand's block number at a point. -/
theorem index1 : ∀ t : Fin grid0.N, win0_1.index t 0 = 0 ∧ win0_1.index t 1 = 0 := by decide +kernel

/-- The rotation's block number at a point. -/
theorem index2 : ∀ t : Fin grid0.N, win0_2.index t 0 = 0 ∧ win0_2.index t 1 = 0 := by decide +kernel

/-- The sixteen centroids' block number at a point. -/
theorem index3 : ∀ t : Fin grid0.N, win0_3.index t 0 = 0 := by decide +kernel

/-- The four centroids' block number at a point. -/
theorem index4 : ∀ t : Fin grid0.N, win0_4.index t 0 = 0 := by decide +kernel

/-- The output's block number at a point. -/
theorem index5 : ∀ t : Fin grid0.N, win0_5.index t 0 = t.val ∧ win0_5.index t 1 = 0 := by decide +kernel

/-- The input's block at a point: 8192 consecutive rows. -/
theorem blk0 (c : Dev nD) (t : Fin cfg0.N) (r : Fin 8192) (k : Fin 128) :
    (iblk m c 0 t : FVec Ideal S8192x128 .f32) (ix2 r k)
      = (m ((c : Thread nD τ).loc main_arg0) : FVec Ideal S65536x128 .f32) (ix2 ⟨8192 * t.val + r.val, by have h : cfg0.N = 8 := N_0; have := t.isLt; omega⟩ k) := by
  unfold iblk
  rw [View.read_apply]
  show V m c main_arg0 _ = _
  rw [V_main_arg0]
  refine congrArg _ (funext fun d => Fin.ext ?_)
  match d with
  | ⟨0, _⟩ => show win0_0.index t 0 * 8192 + 1 * r.val = 8192 * t.val + r.val; rw [(index0 t).1]; omega
  | ⟨1, _⟩ => show win0_0.index t 1 * 128 + 1 * k.val = k.val; rw [(index0 t).2]; omega

/-- The one-hot operand's block: all of it. -/
theorem blk1 (c : Dev nD) (t : Fin cfg0.N) (a b : Fin 128) :
    (iblk m c 1 t : FVec Ideal S128x128 .f32) (ix2 a b) = (V m c main_v1 : FVec Ideal S128x128 .f32) (ix2 a b) := by
  unfold iblk
  rw [View.read_apply]
  show V m c main_v1 _ = _
  refine congrArg _ (funext fun d => Fin.ext ?_)
  match d with
  | ⟨0, _⟩ => show win0_1.index t 0 * 128 + 1 * a.val = a.val; rw [(index1 t).1]; omega
  | ⟨1, _⟩ => show win0_1.index t 1 * 128 + 1 * b.val = b.val; rw [(index1 t).2]; omega

/-- The rotation's block: all of it. -/
theorem blk2 (c : Dev nD) (t : Fin cfg0.N) (a b : Fin 128) :
    (iblk m c 2 t : FVec Ideal S128x128 .f32) (ix2 a b) = (m ((c : Thread nD τ).loc main_arg1) : FVec Ideal S128x128 .f32) (ix2 a b) := by
  unfold iblk
  rw [View.read_apply]
  show V m c main_arg1 _ = _
  rw [V_main_arg1]
  refine congrArg _ (funext fun d => Fin.ext ?_)
  match d with
  | ⟨0, _⟩ => show win0_2.index t 0 * 128 + 1 * a.val = a.val; rw [(index2 t).1]; omega
  | ⟨1, _⟩ => show win0_2.index t 1 * 128 + 1 * b.val = b.val; rw [(index2 t).2]; omega

/-- The sixteen centroids' block: all of it. -/
theorem blk3 (c : Dev nD) (t : Fin cfg0.N) (a : Fin 16) :
    (iblk m c 3 t : FVec Ideal S16 .f32) (ix1 a) = (m ((c : Thread nD τ).loc main_arg2) : FVec Ideal S16 .f32) (ix1 a) := by
  unfold iblk
  rw [View.read_apply]
  show V m c main_arg2 _ = _
  rw [V_main_arg2]
  refine congrArg _ (funext fun d => Fin.ext ?_)
  match d with
  | ⟨0, _⟩ => show win0_3.index t 0 * 16 + 1 * a.val = a.val; rw [index3 t]; omega

/-- The four centroids' block: all of it. -/
theorem blk4 (c : Dev nD) (t : Fin cfg0.N) (a : Fin 4) :
    (iblk m c 4 t : FVec Ideal S4 .f32) (ix1 a) = (m ((c : Thread nD τ).loc main_arg3) : FVec Ideal S4 .f32) (ix1 a) := by
  unfold iblk
  rw [View.read_apply]
  show V m c main_arg3 _ = _
  rw [V_main_arg3]
  refine congrArg _ (funext fun d => Fin.ext ?_)
  match d with
  | ⟨0, _⟩ => show win0_4.index t 0 * 4 + 1 * a.val = a.val; rw [index4 t]; omega

/-- The output array after the run. -/
theorem final (c : Dev nD) : (dats m 0 c).arrAt 5 cfg0.N = outArr (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  refine (dats m 0 c).arrAt_eq_of_covers 5 _ (by decide +kernel) fun t hf y => ?_
  blk_simp
  rw [after0_5]
  show outsAt0 m c t _ = _
  unfold outsAt0
  rw [out_eq]
  obtain ⟨r, d, rfl⟩ : ∃ (r : Fin 8192) (d : Fin 128), y = ix2 r d := ⟨y 0, y 1, ValueIdx.eq_ix2 _⟩
  refine (body_apply _ _ _ _ _ r d).trans ?_
  have ht : t.val < cfg0.N := t.isLt
  rw [show cfg0.N = 8 from N_0] at ht
  have he : (win0_5.blk t).view.emb (ix2 r d) = (ix2 ⟨8192 * t.val + r.val, by omega⟩ d : S65536x128.Idx) := by
    funext a
    refine Fin.ext ?_
    match a with
    | ⟨0, _⟩ => show win0_5.index t 0 * 8192 + 1 * r.val = 8192 * t.val + r.val; rw [(index5 t).1]; omega
    | ⟨1, _⟩ => show win0_5.index t 1 * 128 + 1 * d.val = d.val; rw [(index5 t).2]; omega
  rw [he]
  simp only [blk0, blk1, blk2, blk3, blk4, V_oneHot]
  rfl

/-- The run: the output array is that function of the arguments, and the arguments are as launched. -/
theorem run : θ_run defs (onTc (τ := τ) (main (F := Ideal))) ⟨m, fun _ => 0, ρ⟩ fun r => ∀ c : Dev nD,
      r.2.mem ((c : Thread nD τ).loc main_v2) = outArr (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

end Cert.KArray

end
-- ==== Proof.RefRun.lean ====
/- The run of the reference: its list of host operations executed in order leaves in the result buffer a composed
   term of the six arguments, stated here stage by stage (the projection, the wrapped channel indices, the squared
   distances, the index of the least, the looked-up centroid, the two placements, the last product). -/
module

public import proofs.«01_k».proof.Proof.Gen.ReferenceIdeal
public import Idealize.ShloMosaic.Lib.StableHlo.Run
public import Idealize.ShloMosaic.Lib.StableHlo.RunHlo
public import Idealize.ShloMosaic.Lib.Claim

@[expose] public section

noncomputable section

namespace Cert.RefRun

open Cert.ReferenceIdeal Cert.ReferenceIdeal.Gen Idealize.ShloMosaic Idealize.ShloMosaic.TcCoe Idealize.SL.Sem

variable {F : FTy → Type} [FloatOps F]

/-- The projected tokens: the tokens times the transposed projection matrix. -/
def proj (x : FVec F S65536x128 .f32) (p : FVec F S128x128 .f32) : FVec F S65536x128 .f32 :=
  Host.dotGeneral dot_S65536x128_S128x128_S65536x128_1_0_0_1_n_n none x (transpose S128x128 [1, 0] p transposes_S128x128_S128x128_1_0)

/-- The 32 high-precision channel indices, a negative one counted from the end. -/
def wrapHi (i : IVec S32 32) : IVec S32x1 32 :=
  broadcastInDim S32x1 ![0] bcast_S32_S32x1_0 (select (cmpi .slt i (broadcastInDim S32 ![] bcast_S_S32 (constantI S_ 32 0#32)))
    (addi i (broadcastInDim S32 ![] bcast_S_S32 (constantI S_ 32 128#32))) i)

/-- The 96 low-precision channel indices, a negative one counted from the end. -/
def wrapLo (i : IVec S96 32) : IVec S96x1 32 :=
  broadcastInDim S96x1 ![0] bcast_S96_S96x1_0 (select (cmpi .slt i (broadcastInDim S96 ![] bcast_S_S96 (constantI S_ 32 0#32)))
    (addi i (broadcastInDim S96 ![] bcast_S_S96 (constantI S_ 32 128#32))) i)

/-- The high channels' differences to each of the 16 centroids. -/
def diffHi (y : FVec F S65536x128 .f32) (w : IVec S32x1 32) (h : FVec F S16 .f32) : FVec F S65536x32x16 .f32 :=
  subf (broadcastInDim S65536x32x16 ![0, 1, 2] bcast_S65536x32x1_S65536x32x16_0_1_2 (broadcastInDim S65536x32x1 ![0, 1] bcast_S65536x32_S65536x32x1_0_1
      (Host.gather gather_S65536x128_S32x1_S65536x32_0_1_n_n_1_1_655361 y w)))
    (broadcastInDim S65536x32x16 ![0, 1, 2] bcast_S1x1x16_S65536x32x16_0_1_2 (broadcastInDim S1x1x16 ![2] bcast_S16_S1x1x16_2 h))

/-- The low channels' differences to each of the 4 centroids. -/
def diffLo (y : FVec F S65536x128 .f32) (w : IVec S96x1 32) (h : FVec F S4 .f32) : FVec F S65536x96x4 .f32 :=
  subf (broadcastInDim S65536x96x4 ![0, 1, 2] bcast_S65536x96x1_S65536x96x4_0_1_2 (broadcastInDim S65536x96x1 ![0, 1] bcast_S65536x96_S65536x96x1_0_1
      (Host.gather gather_S65536x128_S96x1_S65536x96_0_1_n_n_1_1_655361 y w)))
    (broadcastInDim S65536x96x4 ![0, 1, 2] bcast_S1x1x4_S65536x96x4_0_1_2 (broadcastInDim S1x1x4 ![2] bcast_S4_S1x1x4_2 h))

/-- The index of the least squared difference among 16. -/
def leastHi (d : FVec F S65536x32x16 .f32) : IVec S65536x32 32 := fun j =>
  (Host.argReduce reducer_argmin_f32_i32 (mulf d d) (iotaInDim S65536x32x16 32 2) (constant S_ .f32 0x7F800000#32) (constantI S_ 32 0#32)
    reducesTo_S65536x32x16_S65536x32_d2 h_S_ j).2

/-- The index of the least squared difference among 4. -/
def leastLo (d : FVec F S65536x96x4 .f32) : IVec S65536x96 32 := fun j =>
  (Host.argReduce reducer_argmin_f32_i32 (mulf d d) (iotaInDim S65536x96x4 32 2) (constant S_ .f32 0x7F800000#32) (constantI S_ 32 0#32)
    reducesTo_S65536x96x4_S65536x96_d2 h_S_ j).2

/-- The start indices of the look-up among 16: a negative one counted from the end. -/
def startHi (i : IVec S65536x32 32) : IVec S65536x32x1 32 :=
  broadcastInDim S65536x32x1 ![0, 1] bcast_S65536x32_S65536x32x1_0_1
    (select (cmpi .slt i (broadcastInDim S65536x32 ![] bcast_S_S65536x32 (constantI S_ 32 0#32)))
      (addi i (broadcastInDim S65536x32 ![] bcast_S_S65536x32 (constantI S_ 32 16#32))) i)

/-- The start indices of the look-up among 4: a negative one counted from the end. -/
def startLo (i : IVec S65536x96 32) : IVec S65536x96x1 32 :=
  broadcastInDim S65536x96x1 ![0, 1] bcast_S65536x96_S65536x96x1_0_1
    (select (cmpi .slt i (broadcastInDim S65536x96 ![] bcast_S_S65536x96 (constantI S_ 32 0#32)))
      (addi i (broadcastInDim S65536x96 ![] bcast_S_S65536x96 (constantI S_ 32 4#32))) i)

/-- The centroid at each start index, with the fill value where the index lies outside the 16. -/
def lookHi (h : FVec F S16 .f32) (s : IVec S65536x32x1 32) : FVec F S65536x32 .f32 :=
  select (Host.reduce IntOp.andi (andi (cmpi .sge s (broadcastInDim S65536x32x1 ![] bcast_S_S65536x32x1 (constantI S_ 32 0#32)))
      (cmpi .sle s (broadcastInDim S65536x32x1 ![0, 1, 2] bcast_S1x1x1_S65536x32x1_0_1_2 (broadcastInDim S1x1x1 ![2] bcast_S1_S1x1x1_2 (constantI S1 32 15#32)))))
      (constantI S_ 1 1#1) reducesTo_S65536x32x1_S65536x32_d2 h_S_)
    (Host.gather gather_S16_S65536x32x1_S65536x32_n_0_n_n_0_2_1 h s)
    (broadcastInDim S65536x32 ![] bcast_S_S65536x32 (constant S_ .f32 0x7FC00000#32))

/-- The centroid at each start index, with the fill value where the index lies outside the 4. -/
def lookLo (h : FVec F S4 .f32) (s : IVec S65536x96x1 32) : FVec F S65536x96 .f32 :=
  select (Host.reduce IntOp.andi (andi (cmpi .sge s (broadcastInDim S65536x96x1 ![] bcast_S_S65536x96x1 (constantI S_ 32 0#32)))
      (cmpi .sle s (broadcastInDim S65536x96x1 ![0, 1, 2] bcast_S1x1x1_S65536x96x1_0_1_2 (broadcastInDim S1x1x1 ![2] bcast_S1_S1x1x1_2 (constantI S1 32 3#32)))))
      (constantI S_ 1 1#1) reducesTo_S65536x96x1_S65536x96_d2 h_S_)
    (Host.gather gather_S4_S65536x96x1_S65536x96_n_0_n_n_0_2_1 h s)
    (broadcastInDim S65536x96 ![] bcast_S_S65536x96 (constant S_ .f32 0x7FC00000#32))

/-- The two groups' values placed at their channels of an array of zeros. -/
def place (wh : IVec S32x1 32) (wl : IVec S96x1 32) (vh : FVec F S65536x32 .f32) (vl : FVec F S65536x96 .f32) : FVec F S65536x128 .f32 :=
  Host.scatter scatter_S65536x128_S96x1_S65536x96_0_1_1_1 (fun _ b => b)
    (Host.scatter scatter_S65536x128_S32x1_S65536x32_0_1_1_1 (fun _ b => b)
      (broadcastInDim S65536x128 ![] bcast_S_S65536x128 (constant S_ .f32 0x00000000#32)) wh vh) wl vl

/-- The quantised projected tokens. -/
def quant (y : FVec F S65536x128 .f32) (wh : IVec S32x1 32) (wl : IVec S96x1 32) (hc : FVec F S16 .f32) (lc : FVec F S4 .f32) : FVec F S65536x128 .f32 :=
  place wh wl (lookHi hc (startHi (leastHi (diffHi y wh hc)))) (lookLo lc (startLo (leastLo (diffLo y wl lc))))

/-- The reference's result: the quantised tokens times the projection matrix. -/
def out (x : FVec F S65536x128 .f32) (p : FVec F S128x128 .f32) (hc : FVec F S16 .f32) (lc : FVec F S4 .f32) (hi : IVec S32 32) (li : IVec S96 32) :
    FVec F S65536x128 .f32 :=
  Host.dotGeneral dot_S65536x128_S128x128_S65536x128_1_0_0_1_n_n none (quant (proj x p) (wrapHi hi) (wrapLo li) hc lc) p

set_option maxRecDepth 8192 in
set_option maxHeartbeats 2000000 in
/-- The reference's run: the result buffer holds `out` of the arguments, and the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
        = out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine θ_run_mono (StableHlo.run_hlo _ _ (by hlo_seq) (by decide) (by decide) (by simp)
    (by intro _ h; (repeat (cases h with | head => rfl | tail _ h => ?_)); exact nomatch h) _ _) ?_
  intro r h c
  refine ⟨(h c main_v47).trans ?_, (h c main_arg0).trans ?_, (h c main_arg1).trans ?_, (h c main_arg2).trans ?_,
    (h c main_arg3).trans ?_, (h c main_arg4).trans ?_, (h c main_arg5).trans ?_⟩
  all_goals
    simp only [StableHlo.TRef.binary, StableHlo.TRef.nullary, StableHlo.TRef.ternary, StableHlo.TRef.unary, StableHlo.TRef.quaternary,
      StableHlo.TRef.toBuf, StableHlo.TRef.ofBuf, cast_eq]
    after_results_simp <;> rfl

/-- The reference keeps its arguments and leaves every counter at zero. -/
theorem quiescent (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 := by
  exact θ_run_mono (run m ρ) fun r h => ⟨fun c => (h c).2, sem_eq_zero_of_no_sems rfl _⟩

end Cert.RefRun

end
-- ==== Proof.RefOps.lean ====
/- The reference's array operations read at an index: the gather of columns, the scatter of columns, the index of the least. -/
module

public import proofs.«01_k».proof.Proof.RefRun
public import Idealize.ShloMosaic.Lib.ValueIdx
public import Idealize.ShloMosaic.Lib.ReduceAll
public import Idealize.ShloMosaic.Lib.Routing.OpsOrder
public import Idealize.ShloMosaic.PureOps.Ideal.Laws
public import Mathlib.Data.Prod.Lex

@[expose] public section

noncomputable section

namespace Cert.RefOps

open Idealize.ShloMosaic Idealize.ShloMosaic.ValueIdx

/-! ## A gather of columns -/

/-- The dimension numbers of a gather of columns: one start index per result column, whole columns taken. -/
abbrev colGather (R N C : Nat) (wf : GatherDims.WF ⟨2, ![R, N]⟩ ⟨2, ![C, 1]⟩ ⟨2, ![R, C]⟩ [0] [1] [] [1] [] 1 ![R, 1]) :
    GatherDims ⟨2, ![R, N]⟩ ⟨2, ![C, 1]⟩ ⟨2, ![R, C]⟩ where
  offsetDims := [0]
  collapsedSliceDims := [1]
  operandBatchingDims := []
  startIndicesBatchingDims := []
  startIndexMap := [1]
  indexVectorDim := 1
  sliceSizes := ![R, 1]
  wf := wf

/-- Column `k` of the result is the operand's column at the `k`-th index, when that index is in range. -/
theorem gather_col {α : Type} {R N C w : Nat} (wf : GatherDims.WF ⟨2, ![R, N]⟩ ⟨2, ![C, 1]⟩ ⟨2, ![R, C]⟩ [0] [1] [] [1] [] 1 ![R, 1])
    (x : (⟨2, ![R, N]⟩ : Shape).Idx → α) (idx : IVec ⟨2, ![C, 1]⟩ w) (r : Fin R) (k : Fin C) (q : Fin N)
    (hq : (idx (ix2 k 0)).toInt = (q.val : Int)) : Host.gather (colGather R N C wf) x idx (ix2 r k) = x (ix2 r q) := by
  unfold Host.gather
  congr 1
  funext a
  refine Fin.ext ?_
  show (colGather R N C wf).start (ix2 r k) idx a + (colGather R N C wf).batchCoord (ix2 r k) a + (colGather R N C wf).offCoord (ix2 r k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start
    rw [dif_neg (by intro h; simp at h)]
    simp only [Nat.zero_add, Nat.add_zero]
    unfold GatherDims.offCoord
    rw [dif_pos ((GatherDims.mem_sKept _ _).mpr ⟨by intro h; simp at h, List.not_mem_nil⟩)]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colGather R N C wf).startIndexMap from List.mem_singleton.mpr rfl)]
    have hsi : (colGather R N C wf).siIdx (ix2 r k) ⟨List.idxOf (1 : Fin 2) (colGather R N C wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi]
    show min (idx (ix2 k 0)).toInt.toNat (N - 1) = q.val
    rw [hq]
    have := q.isLt
    omega

/-! ## A scatter of columns -/

/-- The dimension numbers of a scatter of columns: one index per update column, whole columns written. -/
abbrev colScatter (R N C : Nat) (wf : ScatterDims.WF ⟨2, ![R, N]⟩ ⟨2, ![C, 1]⟩ ⟨2, ![R, C]⟩ [0] [1] [1] 1) :
    ScatterDims ⟨2, ![R, N]⟩ ⟨2, ![C, 1]⟩ ⟨2, ![R, C]⟩ where
  updateWindowDims := [0]
  insertedWindowDims := [1]
  scatterDimsToOperandDims := [1]
  indexVectorDim := 1
  wf := wf

/-- Update `(r, k)` lands at row `r` of the column its index names, when that index is in range. -/
theorem scatter_col_idx {R N C w : Nat} (wf : ScatterDims.WF ⟨2, ![R, N]⟩ ⟨2, ![C, 1]⟩ ⟨2, ![R, C]⟩ [0] [1] [1] 1)
    (idx : IVec ⟨2, ![C, 1]⟩ w) (r : Fin R) (k : Fin C) (q : Fin N) (hq : (idx (ix2 k 0)).toInt = (q.val : Int)) :
    (colScatter R N C wf).resultIdx? (ix2 r k) idx = some (ix2 r q) := by
  have s0 : (colScatter R N C wf).start (ix2 r k) idx 0 = 0 := by
    unfold ScatterDims.start
    rw [dif_neg (by intro h; simp at h)]
  have s1 : (colScatter R N C wf).start (ix2 r k) idx 1 = q.val := by
    unfold ScatterDims.start
    rw [dif_pos (show (1 : Fin 2) ∈ (colScatter R N C wf).scatterDimsToOperandDims from List.mem_singleton.mpr rfl)]
    have hsi : (colScatter R N C wf).siIdx (ix2 r k) ⟨List.idxOf (1 : Fin 2) (colScatter R N C wf).scatterDimsToOperandDims,
        List.idxOf_lt_length_iff.2 (List.mem_singleton.mpr rfl)⟩ = ix2 k 0 := by
      funext b; refine Fin.ext ?_
      match b with
      | ⟨0, _⟩ => rfl
      | ⟨1, _⟩ => rfl
    rw [hsi, hq]
  have w0 : (colScatter R N C wf).window (ix2 r k) 0 = r.val := rfl
  have w1 : (colScatter R N C wf).window (ix2 r k) 1 = 0 := rfl
  unfold ScatterDims.resultIdx?
  have hall : ∀ a, 0 ≤ (colScatter R N C wf).start (ix2 r k) idx a + (colScatter R N C wf).window (ix2 r k) a ∧
      (colScatter R N C wf).start (ix2 r k) idx a + (colScatter R N C wf).window (ix2 r k) a < (⟨2, ![R, N]⟩ : Shape).size a := by
    intro a
    match a with
    | ⟨0, _⟩ =>
      rw [show (⟨0, by omega⟩ : Fin 2) = 0 from rfl, s0, w0]
      show 0 ≤ (0 : Int) + r.val ∧ (0 : Int) + r.val < R
      have := r.isLt
      omega
    | ⟨1, _⟩ =>
      rw [show (⟨1, by omega⟩ : Fin 2) = 1 from rfl, s1, w1]
      show 0 ≤ (q.val : Int) + (0 : Nat) ∧ (q.val : Int) + (0 : Nat) < N
      have := q.isLt
      omega
  rw [dif_pos hall]
  refine congrArg some (funext fun a => Fin.ext ?_)
  match a with
  | ⟨0, _⟩ =>
    show ((colScatter R N C wf).start (ix2 r k) idx 0 + (colScatter R N C wf).window (ix2 r k) 0).toNat = r.val
    rw [s0, w0]; omega
  | ⟨1, _⟩ =>
    show ((colScatter R N C wf).start (ix2 r k) idx 1 + (colScatter R N C wf).window (ix2 r k) 1).toNat = q.val
    rw [s1, w1]; omega

/-- A run of overwrites none of which applies leaves the value. -/
theorem foldl_miss {α ι : Type} (p : ι → Prop) [DecidablePred p] (g : ι → α) : ∀ (L : List ι) (a : α), (∀ n ∈ L, ¬ p n) →
    L.foldl (fun a n => if p n then g n else a) a = a
  | [], _, _ => rfl
  | n :: L, a, h => by
    rw [List.foldl_cons, if_neg (h n (List.mem_cons_self ..))]
    exact foldl_miss p g L a fun n hn => h n (List.mem_cons_of_mem _ hn)

/-- A run of overwrites of which one applies, all that apply writing `v`, leaves `v`. -/
theorem foldl_hit {α ι : Type} (p : ι → Prop) [DecidablePred p] (g : ι → α) (v : α) : ∀ (L : List ι) (a : α), (∀ n ∈ L, p n → g n = v) →
    (a = v ∨ ∃ n ∈ L, p n) → L.foldl (fun a n => if p n then g n else a) a = v
  | [], a, _, h => by
    rcases h with h | ⟨n, hn, _⟩
    · exact h
    · exact absurd hn List.not_mem_nil
  | n :: L, a, hg, h => by
    rw [List.foldl_cons]
    by_cases hp : p n
    · rw [if_pos hp, hg n (List.mem_cons_self ..) hp]
      exact foldl_hit p g v L v (fun n hn => hg n (List.mem_cons_of_mem _ hn)) (Or.inl rfl)
    · rw [if_neg hp]
      refine foldl_hit p g v L a (fun n hn => hg n (List.mem_cons_of_mem _ hn)) ?_
      rcases h with h | ⟨n', hn', hp'⟩
      · exact Or.inl h
      · rcases List.mem_cons.mp hn' with rfl | hm
        · exact absurd hp' hp
        · exact Or.inr ⟨n', hm, hp'⟩

/-- The scatter's update at position `n` lands on `(r, c)` exactly when it is in row `r` and its index names `c`. -/
theorem scatter_col_lands {R N C w : Nat} (wf : ScatterDims.WF ⟨2, ![R, N]⟩ ⟨2, ![C, 1]⟩ ⟨2, ![R, C]⟩ [0] [1] [1] 1)
    (idx : IVec ⟨2, ![C, 1]⟩ w) (q : Fin C → Fin N) (hq : ∀ k, (idx (ix2 k 0)).toInt = ((q k).val : Int))
    (j : (⟨2, ![R, C]⟩ : Shape).Idx) (r : Fin R) (c : Fin N) :
    (colScatter R N C wf).resultIdx? j idx = some (ix2 r c) → j 0 = r ∧ q (j 1) = c := by
  obtain ⟨a, b, rfl⟩ : ∃ (a : Fin R) (b : Fin C), j = ix2 a b := ⟨j 0, j 1, ValueIdx.eq_ix2 j⟩
  intro e
  rw [scatter_col_idx wf idx a b (q b) (hq b)] at e
  have e' := Option.some.inj e
  exact ⟨congrFun e' 0, congrFun e' 1⟩

/-- With distinct indices, the column the `k`-th index names holds the `k`-th update column. -/
theorem scatter_col_hit {α : Type} {R N C w : Nat} (wf : ScatterDims.WF ⟨2, ![R, N]⟩ ⟨2, ![C, 1]⟩ ⟨2, ![R, C]⟩ [0] [1] [1] 1)
    (x : (⟨2, ![R, N]⟩ : Shape).Idx → α) (idx : IVec ⟨2, ![C, 1]⟩ w) (upd : (⟨2, ![R, C]⟩ : Shape).Idx → α) (q : Fin C → Fin N)
    (hq : ∀ k, (idx (ix2 k 0)).toInt = ((q k).val : Int)) (inj : Function.Injective q) (r : Fin R) (k : Fin C) :
    Host.scatter (colScatter R N C wf) (fun _ b => b) x idx upd (ix2 r (q k)) = upd (ix2 r k) := by
  rw [← Routing.scatterIn_finRange, Routing.scatterIn_at]
  refine foldl_hit _ _ _ _ _ (fun n _ hn => ?_) (Or.inr ⟨(⟨2, ![R, C]⟩ : Shape).rowMajor (ix2 r k), List.mem_finRange _, ?_⟩)
  · obtain ⟨e0, e1⟩ := scatter_col_lands wf idx q hq _ r (q k) hn
    exact congrArg upd ((ValueIdx.eq_ix2 _).trans (congrArg₂ ix2 e0 (inj e1)))
  · rw [Equiv.symm_apply_apply]
    exact scatter_col_idx wf idx r k (q k) (hq k)

/-- A column no index names keeps the operand's value. -/
theorem scatter_col_miss {α : Type} {R N C w : Nat} (wf : ScatterDims.WF ⟨2, ![R, N]⟩ ⟨2, ![C, 1]⟩ ⟨2, ![R, C]⟩ [0] [1] [1] 1)
    (x : (⟨2, ![R, N]⟩ : Shape).Idx → α) (idx : IVec ⟨2, ![C, 1]⟩ w) (upd : (⟨2, ![R, C]⟩ : Shape).Idx → α) (q : Fin C → Fin N)
    (hq : ∀ k, (idx (ix2 k 0)).toInt = ((q k).val : Int)) (r : Fin R) (c : Fin N) (hc : ∀ k, q k ≠ c) :
    Host.scatter (colScatter R N C wf) (fun _ b => b) x idx upd (ix2 r c) = x (ix2 r c) := by
  rw [← Routing.scatterIn_finRange, Routing.scatterIn_at]
  exact foldl_miss _ _ _ _ fun n _ hn => hc _ (scatter_col_lands wf idx q hq _ r c hn).2

/-! ## A conjunction along a last axis of one -/

/-- The reduction by "and" along a last axis of extent one is that one bit. -/
theorem andi_last {A B : Nat} {u : Shape} (x : IVec ⟨3, ![A, B, 1]⟩ 1) (init : IVec u 1) (hr : (⟨3, ![A, B, 1]⟩ : Shape).ReducesTo [2] ⟨2, ![A, B]⟩)
    (hu : 0 < u.numel) (hi : init (Shape.Idx.first hu) = 1#1) (r : Fin A) (k : Fin B) (hx : x (ix3 r k 0) = 1#1) :
    Host.reduce IntOp.andi x init hr hu (ix2 r k) = 1#1 := by
  rw [Host.reduce_eq_foldl]
  refine IntOp.foldl_andi_one _ _ _ hi fun j hj => ?_
  rw [List.mem_filter] at hj
  have hd := of_decide_eq_true hj.2
  have e0 : j 0 = r := Fin.ext ((Shape.ReducesTo.drop_apply_val_of_eq hr j 0 0 (show 0 < 2 by decide) rfl).symm.trans (congrArg Fin.val (congrFun hd 0)))
  have e1 : j 1 = k := Fin.ext ((Shape.ReducesTo.drop_apply_val_of_eq hr j 1 1 (show 1 < 2 by decide) rfl).symm.trans (congrArg Fin.val (congrFun hd 1)))
  obtain ⟨a, b, z, rfl⟩ : ∃ (a : Fin A) (b : Fin B) (z : Fin 1), j = ix3 a b z := ⟨j 0, j 1, j 2, ValueIdx.eq_ix3 j⟩
  obtain rfl : a = r := e0
  obtain rfl : b = k := e1
  obtain rfl : z = 0 := Subsingleton.elim _ _
  exact hx

/-- A choice whose bit is set at an index takes its first operand there. -/
theorem select_set {s : Shape} {α : Type} (c : IVec s 1) (a b : s.Idx → α) (j : s.Idx) (h : c j = 1#1) : select c a b j = a j := by
  show Scalar.select (c j) (a j) (b j) = a j
  rw [h, select_one]

/-! ## The index of the least -/

/-- A value with its index, ordered by the value and then by the index read signed. -/
def key (p : EReal × BitVec 32) : EReal ×ₗ ℤ := toLex (p.1, p.2.toInt)

/-- The reducer keeps the accumulated pair when it comes first, else the new one. -/
theorem reducer_eq (a b : EReal × BitVec 32) : Cert.ReferenceIdeal.reducer_argmin_f32_i32 (F := Ideal) a b = if key a < key b then a else b := by
  obtain ⟨a1, a2⟩ := a
  obtain ⟨b1, b2⟩ := b
  unfold Cert.ReferenceIdeal.reducer_argmin_f32_i32
  have hlt : FloatOps.cmpf (F := Ideal) (φ := .f32) .olt a1 b1 = BitVec.ofBool (decide (a1 < b1)) := rfl
  have hne : FloatOps.cmpf (F := Ideal) (φ := .f32) .une a1 a1 = 0#1 := by
    show BitVec.ofBool (decide (a1 ≠ a1)) = 0#1
    rw [decide_eq_false (fun h => h rfl)]; rfl
  have heq : FloatOps.cmpf (F := Ideal) (φ := .f32) .oeq a1 b1 = BitVec.ofBool (decide (a1 = b1)) := rfl
  have hsl : IntOp.cmpi .slt a2 b2 = BitVec.ofBool (decide (a2.toInt < b2.toInt)) := by
    show BitVec.ofBool (a2.slt b2) = _
    rw [BitVec.slt_eq_decide]
  have hkey : key (a1, a2) < key (b1, b2) ↔ a1 < b1 ∨ a1 = b1 ∧ a2.toInt < b2.toInt := Prod.Lex.toLex_lt_toLex
  dsimp only
  rw [hlt, hne, heq, hsl]
  by_cases h1 : a1 < b1
  · rw [if_pos (hkey.mpr (Or.inl h1)), decide_eq_true h1]
    by_cases h2 : a1 = b1 <;> by_cases h3 : a2.toInt < b2.toInt <;> simp only [h2, h3, decide_true, decide_false] <;> rfl
  · rw [decide_eq_false h1]
    by_cases h2 : a1 = b1
    · subst h2
      by_cases h3 : a2.toInt < b2.toInt
      · rw [if_pos (hkey.mpr (Or.inr ⟨rfl, h3⟩)), decide_eq_true rfl, decide_eq_true h3]; rfl
      · rw [if_neg (fun h => (hkey.mp h).elim h1 (fun h => h3 h.2)), decide_eq_true rfl, decide_eq_false h3]; rfl
    · rw [if_neg (fun h => (hkey.mp h).elim h1 (fun h => h2 h.1)), decide_eq_false h2]
      by_cases h3 : a2.toInt < b2.toInt <;> simp only [h3, decide_true, decide_false] <;> rfl

/-- The fold of the reducer is one of the pairs, and none of them comes before it. -/
theorem foldl_least : ∀ (L : List (EReal × BitVec 32)) (a : EReal × BitVec 32),
    L.foldl (Cert.ReferenceIdeal.reducer_argmin_f32_i32 (F := Ideal)) a ∈ a :: L ∧
      ∀ p ∈ a :: L, key (L.foldl (Cert.ReferenceIdeal.reducer_argmin_f32_i32 (F := Ideal)) a) ≤ key p
  | [], a => ⟨List.mem_cons_self .., fun p hp => by rw [List.mem_singleton.mp hp]; exact le_refl _⟩
  | b :: L, a => by
    rw [List.foldl_cons, reducer_eq]
    by_cases h : key a < key b
    · rw [if_pos h]
      obtain ⟨hm, hl⟩ := foldl_least L a
      refine ⟨?_, fun p hp => ?_⟩
      · rcases List.mem_cons.mp hm with e | e
        · rw [e]; exact List.mem_cons_self ..
        · exact List.mem_cons_of_mem _ (List.mem_cons_of_mem _ e)
      · rcases List.mem_cons.mp hp with rfl | hp
        · exact hl _ (List.mem_cons_self ..)
        · rcases List.mem_cons.mp hp with rfl | hp
          · exact (hl _ (List.mem_cons_self ..)).trans h.le
          · exact hl _ (List.mem_cons_of_mem _ hp)
    · rw [if_neg h]
      obtain ⟨hm, hl⟩ := foldl_least L b
      refine ⟨List.mem_cons_of_mem _ hm, fun p hp => ?_⟩
      rcases List.mem_cons.mp hp with rfl | hp
      · exact (hl _ (List.mem_cons_self ..)).trans (not_lt.mp h)
      · exact hl _ hp

/-- The index of the least along the last axis of a real array: it is in range, nothing is less than its value, and everything
    before it is greater. -/
theorem argmin_last {A B n : Nat} {u : Shape} (hn : n < 2 ^ 31) (h0 : 0 < n) (d : FVec Ideal ⟨3, ![A, B, n]⟩ .f32)
    (hr : (⟨3, ![A, B, n]⟩ : Shape).ReducesTo [2] ⟨2, ![A, B]⟩) (hu : 0 < u.numel) (ini : FVec Ideal u .f32) (iw : IVec u 32)
    (hini : ini (Shape.Idx.first hu) = (⊤ : EReal)) (r : Fin A) (k : Fin B) (v : Fin n → ℝ) (hv : ∀ c, d (ix3 r k c) = (v c : EReal)) :
    ∃ c : Fin n, (Host.argReduce (Cert.ReferenceIdeal.reducer_argmin_f32_i32 (F := Ideal)) d (iotaInDim ⟨3, ![A, B, n]⟩ 32 2) ini iw hr hu (ix2 r k)).2
        = BitVec.ofNat 32 c.val ∧ (∀ b, v c ≤ v b) ∧ ∀ b < c, v c < v b := by
  rw [Ideal.argReduce_eq_reduce2, Host.reduce2_eq_foldl_fiber]
  have mem : ∀ p, p ∈ Host.argReduceFiber (α := EReal) d (iotaInDim ⟨3, ![A, B, n]⟩ 32 2) hr (ix2 r k) ↔
      ∃ c : Fin n, p = ((v c : EReal), BitVec.ofNat 32 c.val) := by
    intro p
    unfold Host.argReduceFiber
    rw [List.mem_map]
    constructor
    · rintro ⟨m, hm, rfl⟩
      rw [List.mem_filter] at hm
      have hd := of_decide_eq_true hm.2
      generalize (⟨3, ![A, B, n]⟩ : Shape).rowMajor.symm m = j at hd
      have e0 : j 0 = r := Fin.ext ((Shape.ReducesTo.drop_apply_val_of_eq hr j 0 0 (show 0 < 2 by decide) rfl).symm.trans (congrArg Fin.val (congrFun hd 0)))
      have e1 : j 1 = k := Fin.ext ((Shape.ReducesTo.drop_apply_val_of_eq hr j 1 1 (show 1 < 2 by decide) rfl).symm.trans (congrArg Fin.val (congrFun hd 1)))
      obtain ⟨a, b, c, rfl⟩ : ∃ (a : Fin A) (b : Fin B) (c : Fin n), j = ix3 a b c := ⟨j 0, j 1, j 2, ValueIdx.eq_ix3 j⟩
      obtain rfl : a = r := e0
      obtain rfl : b = k := e1
      refine ⟨c, ?_⟩
      rw [hv]
      rfl
    · rintro ⟨c, rfl⟩
      refine ⟨(⟨3, ![A, B, n]⟩ : Shape).rowMajor (ix3 r k c), ?_, ?_⟩
      · rw [List.mem_filter]
        refine ⟨List.mem_finRange _, decide_eq_true ?_⟩
        rw [Equiv.symm_apply_apply]
        funext a
        match a with
        | ⟨0, _⟩ => exact Fin.ext (Shape.ReducesTo.drop_apply_val_of_eq hr (ix3 r k c) 0 0 (show 0 < 2 by decide) rfl)
        | ⟨1, _⟩ => exact Fin.ext (Shape.ReducesTo.drop_apply_val_of_eq hr (ix3 r k c) 1 1 (show 1 < 2 by decide) rfl)
      · rw [Equiv.symm_apply_apply, hv]
        rfl
  have toInt_c : ∀ c : Fin n, (BitVec.ofNat 32 c.val).toInt = c.val := by
    intro c
    have := c.isLt
    rw [BitVec.toInt_eq_toNat_of_lt (by rw [BitVec.toNat_ofNat]; omega), BitVec.toNat_ofNat, Nat.mod_eq_of_lt (by omega)]
  obtain ⟨hm, hl⟩ := foldl_least (Host.argReduceFiber (α := EReal) d (iotaInDim ⟨3, ![A, B, n]⟩ 32 2) hr (ix2 r k))
    (ini (Shape.Idx.first hu), iw (Shape.Idx.first hu))
  have hm' : ∃ c : Fin n, (Host.argReduceFiber (α := EReal) d (iotaInDim ⟨3, ![A, B, n]⟩ 32 2) hr (ix2 r k)).foldl
      (Cert.ReferenceIdeal.reducer_argmin_f32_i32 (F := Ideal)) (ini (Shape.Idx.first hu), iw (Shape.Idx.first hu)) = ((v c : EReal), BitVec.ofNat 32 c.val) := by
    rcases List.mem_cons.mp hm with e | e
    · exfalso
      have := hl _ (List.mem_cons_of_mem _ ((mem _).mpr ⟨⟨0, h0⟩, rfl⟩))
      rw [e, hini] at this
      rcases Prod.Lex.toLex_le_toLex.mp this with h | h
      · exact absurd h not_top_lt
      · exact EReal.coe_ne_top _ h.1.symm
    · exact (mem _).mp e
  obtain ⟨c, ec⟩ := hm'
  rw [ec] at hl
  have le : ∀ b : Fin n, v c < v b ∨ v c = v b ∧ c ≤ b := by
    intro b
    rcases Prod.Lex.toLex_le_toLex.mp (hl _ (List.mem_cons_of_mem _ ((mem _).mpr ⟨b, rfl⟩))) with h | h
    · exact Or.inl (EReal.coe_lt_coe_iff.mp h)
    · refine Or.inr ⟨EReal.coe_eq_coe_iff.mp h.1, ?_⟩
      have h2 : (BitVec.ofNat 32 c.val).toInt ≤ (BitVec.ofNat 32 b.val).toInt := h.2
      rw [toInt_c, toInt_c] at h2
      exact Fin.le_def.mpr (by omega)
  refine ⟨c, congrArg Prod.snd ec, fun b => ?_, fun b hb => ?_⟩
  · rcases le b with h | h
    · exact h.le
    · exact h.1.le
  · rcases le b with h | h
    · exact h
    · exact absurd hb (not_lt.mpr h.2)

end Cert.RefOps
-- ==== Proof.Nearest.lean ====
/- The threshold searches over real numbers: each returns the centroid whose square distance is least. -/
module

public import proofs.«01_k».proof.Proof.KBody
public import Idealize.ShloMosaic.PureOps.Ideal.Laws
public import Mathlib.Tactic.Linarith

@[expose] public section

noncomputable section

namespace Cert.Nearest

open Idealize.ShloMosaic Cert.KBody

variable {F : FTy → Type} [FloatOps F]

/-! ## What the searches find: a centroid whose two neighbouring thresholds enclose the value -/

/-- The 16-level search returns centroid `i` when its first bit and its word spell `i`. -/
theorem pick {h : Fin 16 → F .f32} {y : F .f32} (i : Fin 16) (hi : (if bit3 h y = 1#1 then 8 + (word h y).toNat else (word h y).toNat) = i.val) :
    search16 h y = h i := by
  unfold search16
  rcases BitVec.eq_zero_or_eq_one (bit3 h y) with e | e
  · rw [e] at hi ⊢
    exact congrArg h (Fin.ext hi)
  · rw [e] at hi ⊢
    exact congrArg h (Fin.ext hi)

/-- The 16-level search returns a centroid `i` such that the value exceeds the threshold below `i` and does not exceed the
    threshold above it. -/
theorem search16_mem (h : Fin 16 → F .f32) (y : F .f32) : ∃ i : Fin 16, search16 h y = h i ∧
    (∀ _ : 0 < i.val, gt y (mid (h ⟨i.val - 1, by omega⟩) (h i)) = 1#1) ∧
    (∀ p : i.val + 1 < 16, gt y (mid (h i) (h ⟨i.val + 1, p⟩)) = 0#1) := by
  rcases BitVec.eq_zero_or_eq_one (bit3 h y) with e3 | e3 <;> rcases BitVec.eq_zero_or_eq_one (bit2 h y) with e2 | e2 <;>
    rcases BitVec.eq_zero_or_eq_one (bit1 h y) with e1 | e1 <;> rcases BitVec.eq_zero_or_eq_one (bit0 h y) with e0 | e0 <;>
    have f3 := e3 <;> have f2 := e2 <;> have f1 := e1 <;> have f0 := e0 <;> rw [bit3] at f3 <;> rw [bit2, e3] at f2 <;>
    rw [bit1, e3, e2] at f1 <;> rw [bit0, e3, e2, e1] at f0
  · exact ⟨0, pick 0 (by rw [e3, word, e2, e1, e0]; decide), fun p => absurd p (by decide), fun _ => f0⟩
  · exact ⟨1, pick 1 (by rw [e3, word, e2, e1, e0]; decide), fun _ => f0, fun _ => f1⟩
  · exact ⟨2, pick 2 (by rw [e3, word, e2, e1, e0]; decide), fun _ => f1, fun _ => f0⟩
  · exact ⟨3, pick 3 (by rw [e3, word, e2, e1, e0]; decide), fun _ => f0, fun _ => f2⟩
  · exact ⟨4, pick 4 (by rw [e3, word, e2, e1, e0]; decide), fun _ => f2, fun _ => f0⟩
  · exact ⟨5, pick 5 (by rw [e3, word, e2, e1, e0]; decide), fun _ => f0, fun _ => f1⟩
  · exact ⟨6, pick 6 (by rw [e3, word, e2, e1, e0]; decide), fun _ => f1, fun _ => f0⟩
  · exact ⟨7, pick 7 (by rw [e3, word, e2, e1, e0]; decide), fun _ => f0, fun _ => f3⟩
  · exact ⟨8, pick 8 (by rw [e3, word, e2, e1, e0]; decide), fun _ => f3, fun _ => f0⟩
  · exact ⟨9, pick 9 (by rw [e3, word, e2, e1, e0]; decide), fun _ => f0, fun _ => f1⟩
  · exact ⟨10, pick 10 (by rw [e3, word, e2, e1, e0]; decide), fun _ => f1, fun _ => f0⟩
  · exact ⟨11, pick 11 (by rw [e3, word, e2, e1, e0]; decide), fun _ => f0, fun _ => f2⟩
  · exact ⟨12, pick 12 (by rw [e3, word, e2, e1, e0]; decide), fun _ => f2, fun _ => f0⟩
  · exact ⟨13, pick 13 (by rw [e3, word, e2, e1, e0]; decide), fun _ => f0, fun _ => f1⟩
  · exact ⟨14, pick 14 (by rw [e3, word, e2, e1, e0]; decide), fun _ => f1, fun _ => f0⟩
  · exact ⟨15, pick 15 (by rw [e3, word, e2, e1, e0]; decide), fun _ => f0, fun p => absurd p (by decide)⟩

/-- The 4-level search returns a centroid `i` such that the value exceeds the threshold below `i` and does not exceed the
    threshold above it. -/
theorem search4_mem (l : Fin 4 → F .f32) (y : F .f32) : ∃ i : Fin 4, search4 l y = l i ∧
    (∀ _ : 0 < i.val, gt y (mid (l ⟨i.val - 1, by omega⟩) (l i)) = 1#1) ∧
    (∀ p : i.val + 1 < 4, gt y (mid (l i) (l ⟨i.val + 1, p⟩)) = 0#1) := by
  unfold search4
  rcases BitVec.eq_zero_or_eq_one (gt y (mid (l 1) (l 2))) with e1 | e1 <;> rw [e1]
  · rcases BitVec.eq_zero_or_eq_one (gt y (mid (l 0) (l 1))) with e0 | e0
    · exact ⟨0, congrArg (Scalar.select · (l 1) (l 0)) e0, fun p => absurd p (by decide), fun _ => e0⟩
    · exact ⟨1, congrArg (Scalar.select · (l 1) (l 0)) e0, fun _ => e0, fun _ => e1⟩
  · rcases BitVec.eq_zero_or_eq_one (gt y (mid (l 2) (l 3))) with e0 | e0
    · exact ⟨2, congrArg (Scalar.select · (l 3) (l 2)) e0, fun _ => e1, fun _ => e0⟩
    · exact ⟨3, congrArg (Scalar.select · (l 3) (l 2)) e0, fun _ => e0, fun p => absurd p (by decide)⟩

/-! ## The tests over the reals -/

/-- The pattern `0x3F000000` is one half. -/
theorem half : Ideal.ofBits .f32 0x3F000000#32 = (((1 : ℝ) / 2 : ℝ) : EReal) := by
  simp [Ideal.ofBits, Ideal.ieee, -EReal.coe_mul]; norm_num

/-- The threshold between two real centroids is their mean. -/
theorem mid_coe (a b : ℝ) : mid (F := Ideal) (a : EReal) (b : EReal) = (((a + b) / 2 : ℝ) : EReal) := by
  show Ideal.ofBits .f32 0x3F000000#32 * ((a : EReal) + (b : EReal)) = _
  rw [half, ← EReal.coe_add, ← EReal.coe_mul]
  exact congrArg _ (by ring)

/-- The test against a threshold, set. -/
theorem gt_one {v a b : ℝ} (e : gt (F := Ideal) (v : EReal) (mid (F := Ideal) (a : EReal) (b : EReal)) = 1#1) : (a + b) / 2 < v := by
  rw [mid_coe] at e
  by_contra hn
  have : gt (F := Ideal) (v : EReal) (((a + b) / 2 : ℝ) : EReal) = 0#1 := by
    show BitVec.ofBool (decide ((((a + b) / 2 : ℝ) : EReal) < (v : EReal))) = 0#1
    rw [decide_eq_false (by rwa [EReal.coe_lt_coe_iff])]; rfl
  rw [this] at e
  exact absurd e (by decide)

/-- The test against a threshold, unset. -/
theorem gt_zero {v a b : ℝ} (e : gt (F := Ideal) (v : EReal) (mid (F := Ideal) (a : EReal) (b : EReal)) = 0#1) : v ≤ (a + b) / 2 := by
  rw [mid_coe] at e
  by_contra hn
  have : gt (F := Ideal) (v : EReal) (((a + b) / 2 : ℝ) : EReal) = 1#1 := by
    show BitVec.ofBool (decide ((((a + b) / 2 : ℝ) : EReal) < (v : EReal))) = 1#1
    rw [decide_eq_true (by rw [EReal.coe_lt_coe_iff]; exact not_le.mp hn)]; rfl
  rw [this] at e
  exact absurd e (by decide)

/-! ## Enclosing thresholds and the least square distance -/

/-- In a sorted codebook, a centroid whose neighbouring thresholds enclose `v` has the value of the first centroid at the
    least square distance from `v`. -/
theorem nearest {n : Nat} (a : Fin n → ℝ) (ha : Monotone a) (v : ℝ) (i j : Fin n)
    (low : ∀ _ : 0 < i.val, (a ⟨i.val - 1, by omega⟩ + a i) / 2 < v) (high : ∀ p : i.val + 1 < n, v ≤ (a i + a ⟨i.val + 1, p⟩) / 2)
    (least : ∀ k, (v - a j) * (v - a j) ≤ (v - a k) * (v - a k)) (first : ∀ k < j, (v - a j) * (v - a j) < (v - a k) * (v - a k)) :
    a i = a j := by
  by_contra ne
  rcases lt_trichotomy j i with lt | eq | lt
  · have hlt : j.val < i.val := lt
    have h1 : a j ≤ a ⟨i.val - 1, by omega⟩ := ha (show j.val ≤ i.val - 1 by omega)
    have h2 : a j < a i := lt_of_le_of_ne (ha lt.le) (Ne.symm ne)
    have h3 := low (by omega)
    have h4 := least i
    have h5 : 0 < (a i - a j) * (2 * v - a i - a j) := mul_pos (by linarith) (by linarith)
    nlinarith
  · exact ne (congrArg a eq.symm)
  · have hlt : i.val < j.val := lt
    have h1 : a ⟨i.val + 1, by omega⟩ ≤ a j := ha (show i.val + 1 ≤ j.val by omega)
    have h2 : a i < a j := lt_of_le_of_ne (ha lt.le) ne
    have h3 := high (by omega)
    have h4 := first i lt
    have h5 : 0 ≤ (a j - a i) * (a i + a j - 2 * v) := mul_nonneg (by linarith) (by linarith)
    nlinarith

/-- The 16-level search over a sorted real codebook returns the first centroid at the least square distance. -/
theorem search16_eq (a : Fin 16 → ℝ) (ha : Monotone a) (v : ℝ) (j : Fin 16)
    (least : ∀ k, (v - a j) * (v - a j) ≤ (v - a k) * (v - a k)) (first : ∀ k < j, (v - a j) * (v - a j) < (v - a k) * (v - a k)) :
    search16 (F := Ideal) (fun k => (a k : EReal)) (v : EReal) = (a j : EReal) := by
  obtain ⟨i, e, low, high⟩ := search16_mem (F := Ideal) (fun k => (a k : EReal)) (v : EReal)
  rw [e]
  exact congrArg _ (nearest a ha v i j (fun p => gt_one (low p)) (fun p => gt_zero (high p)) least first)

/-- The 4-level search over a sorted real codebook returns the first centroid at the least square distance. -/
theorem search4_eq (a : Fin 4 → ℝ) (ha : Monotone a) (v : ℝ) (j : Fin 4)
    (least : ∀ k, (v - a j) * (v - a j) ≤ (v - a k) * (v - a k)) (first : ∀ k < j, (v - a j) * (v - a j) < (v - a k) * (v - a k)) :
    search4 (F := Ideal) (fun k => (a k : EReal)) (v : EReal) = (a j : EReal) := by
  obtain ⟨i, e, low, high⟩ := search4_mem (F := Ideal) (fun k => (a k : EReal)) (v : EReal)
  rw [e]
  exact congrArg _ (nearest a ha v i j (fun p => gt_one (low p)) (fun p => gt_zero (high p)) least first)

end Cert.Nearest
-- ==== Proof.RefValue.lean ====
/- What the reference computes, at an index, over real inputs. -/
module

public import proofs.«01_k».proof.Proof.RefOps
public import proofs.«01_k».proof.Proof.Nearest
public import proofs.«01_k».proof.Proof.KValue

@[expose] public section

set_option maxHeartbeats 40000

noncomputable section

open scoped BigOperators

namespace Cert.RefValue

open Idealize.ShloMosaic hiding ix1 ix2 ix3
open Cert.ReferenceIdeal Cert.ReferenceIdeal.Gen Idealize.ShloMosaic.TcCoe Idealize.ShloMosaic.ValueIdx Cert.RefRun Cert.RefOps

/-! ## Words below the sign bit -/

/-- A small word read signed is itself. -/
theorem toInt_small {q : Nat} (hq : q < 2 ^ 31) : (BitVec.ofNat 32 q).toInt = (q : Int) := by
  rw [BitVec.toInt_eq_toNat_of_lt (by rw [BitVec.toNat_ofNat]; omega), BitVec.toNat_ofNat, Nat.mod_eq_of_lt (by omega)]

/-- A small word is not negative. -/
theorem slt_zero {q : Nat} (hq : q < 2 ^ 31) : IntOp.cmpi .slt (BitVec.ofNat 32 q) 0#32 = 0#1 := by
  have h0 : ¬ (BitVec.ofNat 32 q).toInt < (0#32 : BitVec 32).toInt := by
    rw [toInt_small hq]; simp
  simp only [IntOp.cmpi, BitVec.slt, decide_eq_false h0]; rfl

/-- A small word is at least zero. -/
theorem sge_zero {q : Nat} (hq : q < 2 ^ 31) : IntOp.cmpi .sge (BitVec.ofNat 32 q) 0#32 = 1#1 := by
  have h0 : (0#32 : BitVec 32).toInt ≤ (BitVec.ofNat 32 q).toInt := by
    rw [toInt_small hq]; simp
  simp only [IntOp.cmpi, BitVec.sle, decide_eq_true h0]; rfl

/-- A small word is at most a bound it is at most. -/
theorem sle_bound {q b : Nat} (hb : b < 2 ^ 31) (hq : q ≤ b) : IntOp.cmpi .sle (BitVec.ofNat 32 q) (BitVec.ofNat 32 b) = 1#1 := by
  have h0 : (BitVec.ofNat 32 q).toInt ≤ (BitVec.ofNat 32 b).toInt := by
    rw [toInt_small (by omega), toInt_small hb]; exact_mod_cast hq
  simp only [IntOp.cmpi, BitVec.sle, decide_eq_true h0]; rfl

/-- The pattern `0x7F800000` is plus infinity. -/
theorem top_bits : Ideal.ofBits .f32 0x7F800000#32 = (⊤ : EReal) := by simp [Ideal.ofBits, Ideal.ieee]

/-- A sum of reals over a finite type, taken in the extended reals. -/
theorem coe_sum {n : Nat} (f : Fin n → ℝ) : ((∑ e : Fin n, f e : ℝ) : EReal) = ∑ e : Fin n, (f e : EReal) :=
  map_sum (⟨⟨Real.toEReal, EReal.coe_zero⟩, EReal.coe_add⟩ : ℝ →+ EReal) f Finset.univ

/-! ## The projected tokens -/

/-- Entry `(r, c)` of the projected tokens: row `r` of the tokens times row `c` of the projection. -/
theorem proj_apply (x : FVec Ideal S65536x128 .f32) (p : FVec Ideal S128x128 .f32) (r : Fin 65536) (c : Fin 128) :
    proj x p (ix2 r c) = ∑ e : Fin 128, x (ix2 r e) * p (ix2 c e) := by
  unfold proj
  refine (Ideal.dotGeneral_apply _ _ _ _ _ _).trans ?_
  rw [DotDims.sum_contr₁ _ (a := (1 : Fin 2)) rfl (K := 128) rfl]
  refine Finset.sum_congr rfl fun e _ => congrArg₂ _ (congrArg x (funext fun a => ?_)) ?_
  · match a with | ⟨0, _⟩ => rfl | ⟨1, _⟩ => rfl
  · refine congrArg p (funext fun a => ?_)
    match a with | ⟨0, _⟩ => rfl | ⟨1, _⟩ => rfl

/-! ## The high-precision channels -/

/-- An index in range is left as it is. -/
theorem wrapHi_apply (i : IVec S32 32) (k : Fin 32) (q : Fin 128) (hq : i (ix1 k) = BitVec.ofNat 32 q.val) :
    (wrapHi i (ix2 k 0)).toInt = (q.val : Int) := by
  unfold wrapHi
  rw [broadcastInDim_apply _ _ _ _ (ix1 k) (fun a => by match a with | ⟨0, _⟩ => rfl)]
  show (Scalar.select (IntOp.cmpi .slt (i (ix1 k)) 0#32) (IntOp.addi (i (ix1 k)) 128#32) (i (ix1 k))).toInt = _
  have := q.isLt
  rw [hq, slt_zero (by omega), select_zero, toInt_small (by omega)]

/-- A difference: the channel's entry less the centroid. -/
theorem diffHi_apply (y : FVec Ideal S65536x128 .f32) (w : IVec S32x1 32) (h : FVec Ideal S16 .f32) (r : Fin 65536) (k : Fin 32) (q : Fin 128)
    (hq : (w (ix2 k 0)).toInt = (q.val : Int)) (c : Fin 16) : diffHi y w h (ix3 r k c) = (y (ix2 r q) : EReal) - h (ix1 c) := by
  unfold diffHi
  refine congrArg₂ (fun a b : EReal => a - b) ?_ ?_
  · rw [broadcastInDim_apply _ _ _ _ (ix3 r k 0) (fun a => by match a with | ⟨0, _⟩ => rfl | ⟨1, _⟩ => rfl | ⟨2, _⟩ => rfl),
      broadcastInDim_apply _ _ _ _ (ix2 r k) (fun a => by match a with | ⟨0, _⟩ => rfl | ⟨1, _⟩ => rfl)]
    exact gather_col gather_S65536x128_S32x1_S65536x32_0_1_n_n_1_1_655361_wf y w r k q hq
  · rw [broadcastInDim_apply _ _ _ _ (ix3 0 0 c) (fun a => by match a with | ⟨0, _⟩ => rfl | ⟨1, _⟩ => rfl | ⟨2, _⟩ => rfl),
      broadcastInDim_apply _ _ _ _ (ix1 c) (fun a => by match a with | ⟨0, _⟩ => rfl)]

/-- The index of the least, as its definition reads. -/
theorem leastHi_eq (d : FVec Ideal S65536x32x16 .f32) : leastHi d = fun j => (Host.argReduce reducer_argmin_f32_i32 (mulf d d)
    (iotaInDim S65536x32x16 32 2) (constant S_ .f32 0x7F800000#32) (constantI S_ 32 0#32) reducesTo_S65536x32x16_S65536x32_d2 h_S_ j).2 := rfl

/-- The index of the least square difference: in range, least, and the first such. -/
theorem leastHi_apply (d : FVec Ideal S65536x32x16 .f32) (r : Fin 65536) (k : Fin 32) (v : ℝ) (a : Fin 16 → ℝ)
    (hd : ∀ c, d (ix3 r k c) = (v : EReal) - (a c : EReal)) :
    ∃ c : Fin 16, leastHi d (ix2 r k) = BitVec.ofNat 32 c.val ∧ (∀ b, (v - a c) * (v - a c) ≤ (v - a b) * (v - a b)) ∧
      ∀ b < c, (v - a c) * (v - a c) < (v - a b) * (v - a b) := by
  have hm : ∀ c, mulf d d (ix3 r k c) = (((v - a c) * (v - a c) : ℝ) : EReal) := fun c => by
    show (d (ix3 r k c) : EReal) * d (ix3 r k c) = _
    rw [hd, ← EReal.coe_sub, ← EReal.coe_mul]
  obtain ⟨c, ec, hc⟩ := argmin_last (A := 65536) (B := 32) (n := 16) (u := S_) (by norm_num) (by norm_num) (mulf d d)
    reducesTo_S65536x32x16_S65536x32_d2 h_S_ (constant S_ .f32 0x7F800000#32) (constantI S_ 32 0#32) top_bits r k _ hm
  exact ⟨c, (congrFun (leastHi_eq d) (ix2 r k)).trans ec, hc⟩

/-- A start index in range is left as it is. -/
theorem startHi_apply (i : IVec S65536x32 32) (r : Fin 65536) (k : Fin 32) (c : Fin 16) (hc : i (ix2 r k) = BitVec.ofNat 32 c.val) :
    startHi i (ix3 r k 0) = BitVec.ofNat 32 c.val := by
  unfold startHi
  rw [broadcastInDim_apply _ _ _ _ (ix2 r k) (fun a => by match a with | ⟨0, _⟩ => rfl | ⟨1, _⟩ => rfl)]
  show Scalar.select (IntOp.cmpi .slt (i (ix2 r k)) 0#32) (IntOp.addi (i (ix2 r k)) 16#32) (i (ix2 r k)) = _
  have := c.isLt
  rw [hc, slt_zero (by omega), select_zero]

/-- The look-up at a start index in range is that centroid. -/
theorem lookHi_apply (h : FVec Ideal S16 .f32) (s : IVec S65536x32x1 32) (r : Fin 65536) (k : Fin 32) (c : Fin 16)
    (hs : s (ix3 r k 0) = BitVec.ofNat 32 c.val) : lookHi h s (ix2 r k) = h (ix1 c) := by
  have hc := c.isLt
  have hmask : Host.reduce IntOp.andi (andi (cmpi .sge s (broadcastInDim S65536x32x1 ![] bcast_S_S65536x32x1 (constantI S_ 32 0#32)))
      (cmpi .sle s (broadcastInDim S65536x32x1 ![0, 1, 2] bcast_S1x1x1_S65536x32x1_0_1_2 (broadcastInDim S1x1x1 ![2] bcast_S1_S1x1x1_2 (constantI S1 32 15#32)))))
      (constantI S_ 1 1#1) reducesTo_S65536x32x1_S65536x32_d2 h_S_ (ix2 r k) = 1#1 := by
    refine andi_last _ _ _ _ rfl r k ?_
    show IntOp.andi (IntOp.cmpi .sge (s (ix3 r k 0)) 0#32) (IntOp.cmpi .sle (s (ix3 r k 0)) (BitVec.ofNat 32 15)) = 1#1
    rw [hs, sge_zero (by omega), sle_bound (by norm_num) (by omega)]
    rfl
  unfold lookHi
  refine (select_set _ _ _ _ hmask).trans ?_
  refine (gather_take_apply (by norm_num) gather_S16_S65536x32x1_S65536x32_n_0_n_n_0_2_1_wf h s (ix2 r k)).trans ?_
  refine congrArg h (congrArg ix1 (Fin.ext ?_))
  have ei : takeIdx (ix2 r k) = ix3 r k 0 := by
    funext a
    match a with | ⟨0, _⟩ => rfl | ⟨1, _⟩ => rfl | ⟨2, _⟩ => rfl
  show min (s (takeIdx (ix2 r k))).toInt.toNat (16 - 1) = c.val
  rw [ei, hs, toInt_small (by omega)]
  omega

/-- The value placed at a channel of this group: what the threshold search returns for the channel's entry. -/
theorem valueHi (y : FVec Ideal S65536x128 .f32) (w : IVec S32x1 32) (h : FVec Ideal S16 .f32) (r : Fin 65536) (k : Fin 32) (q : Fin 128)
    (hq : (w (ix2 k 0)).toInt = (q.val : Int)) (v : ℝ) (hv : y (ix2 r q) = (v : EReal)) (a : Fin 16 → ℝ) (ha : Monotone a)
    (hh : ∀ c, h (ix1 c) = (a c : EReal)) :
    lookHi h (startHi (leastHi (diffHi y w h))) (ix2 r k) = KBody.search16 (F := Ideal) (fun c => h (ix1 c)) (y (ix2 r q)) := by
  obtain ⟨c, ec, least, first⟩ := leastHi_apply (diffHi y w h) r k v a fun c => by rw [diffHi_apply y w h r k q hq c, hv, hh]
  rw [lookHi_apply h _ r k c (startHi_apply _ r k c ec), hv, hh, show (fun c => h (ix1 c)) = fun c => (a c : EReal) from funext hh]
  exact (Nearest.search16_eq a ha v c least first).symm

/-! ## The low-precision channels -/

/-- An index in range is left as it is. -/
theorem wrapLo_apply (i : IVec S96 32) (k : Fin 96) (q : Fin 128) (hq : i (ix1 k) = BitVec.ofNat 32 q.val) :
    (wrapLo i (ix2 k 0)).toInt = (q.val : Int) := by
  unfold wrapLo
  rw [broadcastInDim_apply _ _ _ _ (ix1 k) (fun a => by match a with | ⟨0, _⟩ => rfl)]
  show (Scalar.select (IntOp.cmpi .slt (i (ix1 k)) 0#32) (IntOp.addi (i (ix1 k)) 128#32) (i (ix1 k))).toInt = _
  have := q.isLt
  rw [hq, slt_zero (by omega), select_zero, toInt_small (by omega)]

/-- A difference: the channel's entry less the centroid. -/
theorem diffLo_apply (y : FVec Ideal S65536x128 .f32) (w : IVec S96x1 32) (h : FVec Ideal S4 .f32) (r : Fin 65536) (k : Fin 96) (q : Fin 128)
    (hq : (w (ix2 k 0)).toInt = (q.val : Int)) (c : Fin 4) : diffLo y w h (ix3 r k c) = (y (ix2 r q) : EReal) - h (ix1 c) := by
  unfold diffLo
  refine congrArg₂ (fun a b : EReal => a - b) ?_ ?_
  · rw [broadcastInDim_apply _ _ _ _ (ix3 r k 0) (fun a => by match a with | ⟨0, _⟩ => rfl | ⟨1, _⟩ => rfl | ⟨2, _⟩ => rfl),
      broadcastInDim_apply _ _ _ _ (ix2 r k) (fun a => by match a with | ⟨0, _⟩ => rfl | ⟨1, _⟩ => rfl)]
    exact gather_col gather_S65536x128_S96x1_S65536x96_0_1_n_n_1_1_655361_wf y w r k q hq
  · rw [broadcastInDim_apply _ _ _ _ (ix3 0 0 c) (fun a => by match a with | ⟨0, _⟩ => rfl | ⟨1, _⟩ => rfl | ⟨2, _⟩ => rfl),
      broadcastInDim_apply _ _ _ _ (ix1 c) (fun a => by match a with | ⟨0, _⟩ => rfl)]

/-- The index of the least, as its definition reads. -/
theorem leastLo_eq (d : FVec Ideal S65536x96x4 .f32) : leastLo d = fun j => (Host.argReduce reducer_argmin_f32_i32 (mulf d d)
    (iotaInDim S65536x96x4 32 2) (constant S_ .f32 0x7F800000#32) (constantI S_ 32 0#32) reducesTo_S65536x96x4_S65536x96_d2 h_S_ j).2 := rfl

/-- The index of the least square difference: in range, least, and the first such. -/
theorem leastLo_apply (d : FVec Ideal S65536x96x4 .f32) (r : Fin 65536) (k : Fin 96) (v : ℝ) (a : Fin 4 → ℝ)
    (hd : ∀ c, d (ix3 r k c) = (v : EReal) - (a c : EReal)) :
    ∃ c : Fin 4, leastLo d (ix2 r k) = BitVec.ofNat 32 c.val ∧ (∀ b, (v - a c) * (v - a c) ≤ (v - a b) * (v - a b)) ∧
      ∀ b < c, (v - a c) * (v - a c) < (v - a b) * (v - a b) := by
  have hm : ∀ c, mulf d d (ix3 r k c) = (((v - a c) * (v - a c) : ℝ) : EReal) := fun c => by
    show (d (ix3 r k c) : EReal) * d (ix3 r k c) = _
    rw [hd, ← EReal.coe_sub, ← EReal.coe_mul]
  obtain ⟨c, ec, hc⟩ := argmin_last (A := 65536) (B := 96) (n := 4) (u := S_) (by norm_num) (by norm_num) (mulf d d)
    reducesTo_S65536x96x4_S65536x96_d2 h_S_ (constant S_ .f32 0x7F800000#32) (constantI S_ 32 0#32) top_bits r k _ hm
  exact ⟨c, (congrFun (leastLo_eq d) (ix2 r k)).trans ec, hc⟩

/-- A start index in range is left as it is. -/
theorem startLo_apply (i : IVec S65536x96 32) (r : Fin 65536) (k : Fin 96) (c : Fin 4) (hc : i (ix2 r k) = BitVec.ofNat 32 c.val) :
    startLo i (ix3 r k 0) = BitVec.ofNat 32 c.val := by
  unfold startLo
  rw [broadcastInDim_apply _ _ _ _ (ix2 r k) (fun a => by match a with | ⟨0, _⟩ => rfl | ⟨1, _⟩ => rfl)]
  show Scalar.select (IntOp.cmpi .slt (i (ix2 r k)) 0#32) (IntOp.addi (i (ix2 r k)) 4#32) (i (ix2 r k)) = _
  have := c.isLt
  rw [hc, slt_zero (by omega), select_zero]

/-- The look-up at a start index in range is that centroid. -/
theorem lookLo_apply (h : FVec Ideal S4 .f32) (s : IVec S65536x96x1 32) (r : Fin 65536) (k : Fin 96) (c : Fin 4)
    (hs : s (ix3 r k 0) = BitVec.ofNat 32 c.val) : lookLo h s (ix2 r k) = h (ix1 c) := by
  have hc := c.isLt
  have hmask : Host.reduce IntOp.andi (andi (cmpi .sge s (broadcastInDim S65536x96x1 ![] bcast_S_S65536x96x1 (constantI S_ 32 0#32)))
      (cmpi .sle s (broadcastInDim S65536x96x1 ![0, 1, 2] bcast_S1x1x1_S65536x96x1_0_1_2 (broadcastInDim S1x1x1 ![2] bcast_S1_S1x1x1_2 (constantI S1 32 3#32)))))
      (constantI S_ 1 1#1) reducesTo_S65536x96x1_S65536x96_d2 h_S_ (ix2 r k) = 1#1 := by
    refine andi_last _ _ _ _ rfl r k ?_
    show IntOp.andi (IntOp.cmpi .sge (s (ix3 r k 0)) 0#32) (IntOp.cmpi .sle (s (ix3 r k 0)) (BitVec.ofNat 32 3)) = 1#1
    rw [hs, sge_zero (by omega), sle_bound (by norm_num) (by omega)]
    rfl
  unfold lookLo
  refine (select_set _ _ _ _ hmask).trans ?_
  refine (gather_take_apply (by norm_num) gather_S4_S65536x96x1_S65536x96_n_0_n_n_0_2_1_wf h s (ix2 r k)).trans ?_
  refine congrArg h (congrArg ix1 (Fin.ext ?_))
  have ei : takeIdx (ix2 r k) = ix3 r k 0 := by
    funext a
    match a with | ⟨0, _⟩ => rfl | ⟨1, _⟩ => rfl | ⟨2, _⟩ => rfl
  show min (s (takeIdx (ix2 r k))).toInt.toNat (4 - 1) = c.val
  rw [ei, hs, toInt_small (by omega)]
  omega

/-- The value placed at a channel of this group: what the threshold search returns for the channel's entry. -/
theorem valueLo (y : FVec Ideal S65536x128 .f32) (w : IVec S96x1 32) (h : FVec Ideal S4 .f32) (r : Fin 65536) (k : Fin 96) (q : Fin 128)
    (hq : (w (ix2 k 0)).toInt = (q.val : Int)) (v : ℝ) (hv : y (ix2 r q) = (v : EReal)) (a : Fin 4 → ℝ) (ha : Monotone a)
    (hh : ∀ c, h (ix1 c) = (a c : EReal)) :
    lookLo h (startLo (leastLo (diffLo y w h))) (ix2 r k) = KBody.search4 (F := Ideal) (fun c => h (ix1 c)) (y (ix2 r q)) := by
  obtain ⟨c, ec, least, first⟩ := leastLo_apply (diffLo y w h) r k v a fun c => by rw [diffLo_apply y w h r k q hq c, hv, hh]
  rw [lookLo_apply h _ r k c (startLo_apply _ r k c ec), hv, hh, show (fun c => h (ix1 c)) = fun c => (a c : EReal) from funext hh]
  exact (Nearest.search4_eq a ha v c least first).symm

/-! ## The quantised tokens and the result -/

/-- The channel numbers of the high-precision group. -/
abbrev hiOf (q : Fin 128 → Fin 128) (k : Fin 32) : Fin 128 := q ⟨k.val, by omega⟩

/-- The channel numbers of the low-precision group. -/
abbrev loOf (q : Fin 128 → Fin 128) (k : Fin 96) : Fin 128 := q ⟨k.val + 32, by omega⟩

/-- Entry `(r, q k)` of the quantised tokens, `q` the channel order: the centroid the search returns for that entry. -/
theorem quant_apply (y : FVec Ideal S65536x128 .f32) (wh : IVec S32x1 32) (wl : IVec S96x1 32) (hc : FVec Ideal S16 .f32) (lc : FVec Ideal S4 .f32)
    (q : Fin 128 → Fin 128) (inj : Function.Injective q) (hwh : ∀ k, (wh (ix2 k 0)).toInt = ((hiOf q k).val : Int))
    (hwl : ∀ k, (wl (ix2 k 0)).toInt = ((loOf q k).val : Int)) (r : Fin 65536) (v : Fin 128 → ℝ) (hv : ∀ c, y (ix2 r c) = (v c : EReal))
    (a : Fin 16 → ℝ) (ha : Monotone a) (hh : ∀ c, hc (ix1 c) = (a c : EReal)) (b : Fin 4 → ℝ) (hb : Monotone b) (hl : ∀ c, lc (ix1 c) = (b c : EReal))
    (k : Fin 128) : quant y wh wl hc lc (ix2 r (q k)) = KValue.level (fun c => hc (ix1 c)) (fun c => lc (ix1 c)) k (y (ix2 r (q k))) := by
  unfold quant place KValue.level
  by_cases hk : k.val < 32
  · rw [if_pos hk]
    refine (scatter_col_miss scatter_S65536x128_S96x1_S65536x96_0_1_1_1_wf _ wl _ (loOf q) hwl r (q k) (fun k' e => ?_)).trans ?_
    · have := congrArg Fin.val (inj e)
      simp only at this
      omega
    · refine (scatter_col_hit scatter_S65536x128_S32x1_S65536x32_0_1_1_1_wf _ wh _ (hiOf q) hwh (fun i j e => ?_) r ⟨k.val, hk⟩).trans ?_
      · have := congrArg Fin.val (inj e)
        simp only at this
        exact Fin.ext this
      · exact valueHi y wh hc r ⟨k.val, hk⟩ (q k) (hwh ⟨k.val, hk⟩) (v (q k)) (hv _) a ha hh
  · rw [if_neg hk]
    have hk' : k.val - 32 < 96 := by omega
    have ek : loOf q ⟨k.val - 32, hk'⟩ = q k := congrArg q (Fin.ext (by show k.val - 32 + 32 = k.val; omega))
    rw [← ek]
    refine (scatter_col_hit scatter_S65536x128_S96x1_S65536x96_0_1_1_1_wf _ wl _ (loOf q) hwl (fun i j e => ?_) r ⟨k.val - 32, hk'⟩).trans ?_
    · have := congrArg Fin.val (inj e)
      simp only at this
      exact Fin.ext (by omega)
    · exact valueLo y wl lc r ⟨k.val - 32, hk'⟩ _ (hwl ⟨k.val - 32, hk'⟩) (v _) (hv _) b hb hl

/-- Entry `(r, d)` of the result, summed along the channel order. -/
theorem out_apply (x : FVec Ideal S65536x128 .f32) (p : FVec Ideal S128x128 .f32) (hc : FVec Ideal S16 .f32) (lc : FVec Ideal S4 .f32)
    (hi : IVec S32 32) (li : IVec S96 32) (q : Fin 128 → Fin 128) (bij : Function.Bijective q)
    (hhi : ∀ k, hi (ix1 k) = BitVec.ofNat 32 (hiOf q k).val) (hli : ∀ k, li (ix1 k) = BitVec.ofNat 32 (loOf q k).val)
    (xr : Fin 65536 → Fin 128 → ℝ) (hx : ∀ r c, x (ix2 r c) = (xr r c : EReal)) (pr : Fin 128 → Fin 128 → ℝ) (hp : ∀ c e, p (ix2 c e) = (pr c e : EReal))
    (a : Fin 16 → ℝ) (ha : Monotone a) (hh : ∀ c, hc (ix1 c) = (a c : EReal)) (b : Fin 4 → ℝ) (hb : Monotone b) (hl : ∀ c, lc (ix1 c) = (b c : EReal))
    (r : Fin 65536) (d : Fin 128) : out x p hc lc hi li (ix2 r d) =
      ∑ k : Fin 128, KValue.level (fun c => hc (ix1 c)) (fun c => lc (ix1 c)) k (∑ e : Fin 128, x (ix2 r e) * p (ix2 (q k) e)) * p (ix2 (q k) d) := by
  have hy : ∀ c, proj x p (ix2 r c) = ((∑ e : Fin 128, xr r e * pr c e : ℝ) : EReal) := by
    intro c
    rw [proj_apply, coe_sum]
    exact Finset.sum_congr rfl fun e _ => by rw [hx, hp, EReal.coe_mul]
  unfold out
  refine (Ideal.dotGeneral_apply _ _ _ _ _ _).trans ?_
  rw [DotDims.sum_contr₁ _ (a := (1 : Fin 2)) rfl (K := 128) rfl]
  refine Eq.trans ?_ (Eq.trans (Equiv.sum_comp (Equiv.ofBijective q bij)
    (fun c : Fin 128 => quant (proj x p) (wrapHi hi) (wrapLo li) hc lc (ix2 r c) * p (ix2 c d))).symm ?_)
  · refine Finset.sum_congr rfl fun c _ => congrArg₂ _ (congrArg _ (funext fun a => ?_)) (congrArg p (funext fun a => ?_)) <;>
      match a with | ⟨0, _⟩ => rfl | ⟨1, _⟩ => rfl
  · refine Finset.sum_congr rfl fun k _ => ?_
    show quant (proj x p) (wrapHi hi) (wrapLo li) hc lc (ix2 r (q k)) * p (ix2 (q k) d) = _
    rw [quant_apply (proj x p) (wrapHi hi) (wrapLo li) hc lc q bij.1 (fun k => wrapHi_apply hi k _ (hhi k)) (fun k => wrapLo_apply li k _ (hli k)) r _ hy a ha hh
      b hb hl k, proj_apply]

end Cert.RefValue
-- ==== Proof.Pre.lean ====
/- What the precondition says: finite inputs, sorted codebooks, and every channel named by the channel order. -/
module

public import proofs.«01_k».proof.Proof.Gen.Pre_codebook_inputs
public import Idealize.ShloMosaic.Lib.Pipeline.Value
public import Idealize.ShloMosaic.Lib.ValueIdx
public import Idealize.ShloMosaic.Lib.ReduceAll
public import Idealize.ShloMosaic.Lib.Routing.OpsOrder
public import Idealize.ShloMosaic.PureOps.Ideal.Laws

@[expose] public section

set_option maxHeartbeats 100000

noncomputable section

namespace Cert.Pre

open Idealize.ShloMosaic Cert.Pre_codebook_inputs Cert.Pre_codebook_inputs.Gen Idealize.ShloMosaic.ValueIdx

/-! ## The precondition's parts -/

/-- The bits "below plus infinity and above minus infinity". -/
def finite {s : Shape} (h : S_.BroadcastsInDim s (![] : Fin 0 → Fin s.rank)) (x : FVec Ideal s .f32) : IVec s 1 :=
  andi (cmpf .olt x (broadcastInDim s ![] h (constant S_ .f32 0x7F800000#32))) (cmpf .ogt x (broadcastInDim s ![] h (constant S_ .f32 0xFF800000#32)))

/-- The conjunction of all bits. -/
def all {s : Shape} {axes : List (Fin s.rank)} (h : s.ReducesTo axes S_) (x : IVec s 1) : IVec S_ 1 :=
  Host.reduce IntOp.andi x (constantI S_ 1 1#1) h h_S_

/-- The channel order: the high-precision channels, then the others. -/
def order (hi : IVec S32 32) (li : IVec S96 32) : IVec S128 32 := concatenate S128 0 [⟨S32, hi⟩, ⟨S96, li⟩] concatenates_S32_S96_S128_d0

/-- The bits "position `a` of the order names channel `b`". -/
def named (hi : IVec S32 32) (li : IVec S96 32) : IVec S128x128 1 :=
  cmpi .eq (broadcastInDim S128x128 ![0, 1] bcast_S128x1_S128x128_0_1 (broadcastInDim S128x1 ![0] bcast_S128_S128x1_0 (order hi li)))
    (broadcastInDim S128x128 ![0, 1] bcast_S1x128_S128x128_0_1 (broadcastInDim S1x128 ![1] bcast_S128_S1x128_1 (iotaInDim S128 32 0)))

/-- The bits "some position names channel `b`". -/
def covered (hi : IVec S32 32) (li : IVec S96 32) : IVec S128 1 :=
  Host.reduce IntOp.ori (named hi li) (constantI S_ 1 0#1) reducesTo_S128x128_S128_d0 h_S_

/-- The precondition is the conjunction of its seven parts. -/
theorem fn_eq (x : FVec Ideal S65536x128 .f32) (p : FVec Ideal S128x128 .f32) (hc : FVec Ideal S16 .f32) (lc : FVec Ideal S4 .f32)
    (hi : IVec S32 32) (li : IVec S96 32) : fn (F := Ideal) x p hc lc hi li =
      andi (andi (andi (andi (andi (andi (all reducesTo_S65536x128_S_d0_1 (finite bcast_S_S65536x128 x)) (all reducesTo_S128x128_S_d0_1 (finite bcast_S_S128x128 p)))
        (all reducesTo_S16_S_d0 (finite bcast_S_S16 hc))) (all reducesTo_S4_S_d0 (finite bcast_S_S4 lc)))
        (all reducesTo_S15_S_d0 (cmpf .ole (extractStridedSlice S15 ![0] hc slices_S16_S15_0) (extractStridedSlice S15 ![1] hc slices_S16_S15_1))))
        (all reducesTo_S3_S_d0 (cmpf .ole (extractStridedSlice S3 ![0] lc slices_S4_S3_0) (extractStridedSlice S3 ![1] lc slices_S4_S3_1))))
        (all reducesTo_S128_S_d0 (covered hi li)) := rfl

/-! ## Reading the parts -/

/-- A conjunction of two bits that is set has both set. -/
theorem both {s : Shape} {a b : IVec s 1} {j : s.Idx} (h : andi a b j = 1#1) : a j = 1#1 ∧ b j = 1#1 :=
  IntOp.andi_eq_one.mp h

/-- A conjunction of all bits that is set has each set. -/
theorem each {s : Shape} {axes : List (Fin s.rank)} {h : s.ReducesTo axes S_} {x : IVec s 1} {j : S_.Idx} (e : all h x j = 1#1) (i : s.Idx) : x i = 1#1 :=
  haveI : Subsingleton S_.Idx := ⟨fun _ _ => funext fun a => a.elim0⟩
  Host.reduce_andi_all x _ h h_S_ j e i

/-- A decided bit that is set decides true. -/
theorem of_bit {P : Prop} [Decidable P] (h : BitVec.ofBool (decide P) = 1#1) : P := by
  by_contra hn
  rw [decide_eq_false hn] at h
  exact absurd h (by decide)

/-- A finite element is a real number. -/
theorem finite_real {s : Shape} {h : S_.BroadcastsInDim s (![] : Fin 0 → Fin s.rank)} {x : FVec Ideal s .f32} {j : s.Idx} (e : finite h x j = 1#1) :
    ∃ v : ℝ, x j = (v : EReal) := by
  obtain ⟨h1, h2⟩ := both e
  have t : (x j : EReal) < Ideal.ofBits .f32 0x7F800000#32 := of_bit h1
  have b : Ideal.ofBits .f32 0xFF800000#32 < (x j : EReal) := of_bit h2
  rw [show Ideal.ofBits .f32 0x7F800000#32 = (⊤ : EReal) by simp [Ideal.ofBits, Ideal.ieee]] at t
  rw [show Ideal.ofBits .f32 0xFF800000#32 = (⊥ : EReal) by simp [Ideal.ofBits, Ideal.ieee]] at b
  exact ⟨(x j : EReal).toReal, (EReal.coe_toReal t.ne b.ne').symm⟩

/-- The bit "position `a` names channel `b`", read as an equation. -/
theorem named_apply {hi : IVec S32 32} {li : IVec S96 32} {a b : Fin 128} (e : named hi li (ix2 a b) = 1#1) : order hi li (ix1 a) = BitVec.ofNat 32 b.val := by
  have e1 : broadcastInDim S128x128 ![0, 1] bcast_S128x1_S128x128_0_1 (broadcastInDim S128x1 ![0] bcast_S128_S128x1_0 (order hi li)) (ix2 a b) = order hi li (ix1 a) := by
    rw [broadcastInDim_apply _ _ _ _ (ix2 a 0) (fun a => by match a with | ⟨0, _⟩ => rfl | ⟨1, _⟩ => rfl),
      broadcastInDim_apply _ _ _ _ (ix1 a) (fun a => by match a with | ⟨0, _⟩ => rfl)]
  have e2 : broadcastInDim S128x128 ![0, 1] bcast_S1x128_S128x128_0_1 (broadcastInDim S1x128 ![1] bcast_S128_S1x128_1 (iotaInDim S128 32 0)) (ix2 a b)
      = BitVec.ofNat 32 b.val := by
    rw [broadcastInDim_apply _ _ _ _ (ix2 0 b) (fun a => by match a with | ⟨0, _⟩ => rfl | ⟨1, _⟩ => rfl),
      broadcastInDim_apply _ _ _ _ (ix1 b) (fun a => by match a with | ⟨0, _⟩ => rfl)]
    rfl
  rw [← e1, ← e2]
  have h : IntOp.cmpi .eq (broadcastInDim S128x128 ![0, 1] bcast_S128x1_S128x128_0_1 (broadcastInDim S128x1 ![0] bcast_S128_S128x1_0 (order hi li)) (ix2 a b))
    (broadcastInDim S128x128 ![0, 1] bcast_S1x128_S128x128_0_1 (broadcastInDim S1x128 ![1] bcast_S128_S1x128_1 (iotaInDim S128 32 0)) (ix2 a b)) = 1#1 := e
  by_contra hn
  rw [show ∀ u v : BitVec 32, IntOp.cmpi .eq u v = BitVec.ofBool (u == v) from fun _ _ => rfl, beq_false_of_ne hn] at h
  exact absurd h (by decide)

/-- A covered channel is named by some position. -/
theorem covered_apply {hi : IVec S32 32} {li : IVec S96 32} {b : Fin 128} (e : covered hi li (ix1 b) = 1#1) :
    ∃ a : Fin 128, order hi li (ix1 a) = BitVec.ofNat 32 b.val := by
  unfold covered at e
  rw [Host.reduce_eq_fold] at e
  obtain ⟨i, hi', he⟩ := (Routing.fold_ori _ _).mp e
  have hd := (Finset.mem_filter.mp hi').2
  have e1 : i 1 = b := Fin.ext ((Shape.ReducesTo.drop_apply_val_of_eq reducesTo_S128x128_S128_d0 i 0 1).symm.trans (congrArg Fin.val (congrFun hd 0)))
  obtain ⟨a, c, rfl⟩ : ∃ (a c : Fin 128), i = ix2 a c := ⟨i 0, i 1, ValueIdx.eq_ix2 i⟩
  obtain rfl : c = b := e1
  exact ⟨a, named_apply he⟩

/-- The precondition read: finite inputs, sorted codebooks, and every channel named. -/
theorem decode {x : FVec Ideal S65536x128 .f32} {p : FVec Ideal S128x128 .f32} {hc : FVec Ideal S16 .f32} {lc : FVec Ideal S4 .f32}
    {hi : IVec S32 32} {li : IVec S96 32} {j : S_.Idx} (e : fn (F := Ideal) x p hc lc hi li j = 1#1) :
    (∀ i, ∃ v : ℝ, x i = (v : EReal)) ∧ (∀ i, ∃ v : ℝ, p i = (v : EReal)) ∧ (∀ i, ∃ v : ℝ, hc i = (v : EReal)) ∧ (∀ i, ∃ v : ℝ, lc i = (v : EReal)) ∧
      (∀ k : Fin 15, (hc (ix1 k.castSucc) : EReal) ≤ hc (ix1 k.succ)) ∧ (∀ k : Fin 3, (lc (ix1 k.castSucc) : EReal) ≤ lc (ix1 k.succ)) ∧
      ∀ b : Fin 128, ∃ a : Fin 128, order hi li (ix1 a) = BitVec.ofNat 32 b.val := by
  rw [fn_eq] at e
  obtain ⟨e, h7⟩ := both e
  obtain ⟨e, h6⟩ := both e
  obtain ⟨e, h5⟩ := both e
  obtain ⟨e, h4⟩ := both e
  obtain ⟨e, h3⟩ := both e
  obtain ⟨h1, h2⟩ := both e
  refine ⟨fun i => finite_real (each h1 i), fun i => finite_real (each h2 i), fun i => finite_real (each h3 i), fun i => finite_real (each h4 i), fun k => ?_,
    fun k => ?_, fun b => covered_apply (each h7 (ix1 b))⟩
  · have h : (extractStridedSlice S15 ![0] hc slices_S16_S15_0 (ix1 k) : EReal) ≤ extractStridedSlice S15 ![1] hc slices_S16_S15_1 (ix1 k) := of_bit (each h5 (ix1 k))
    rw [extractStridedSlice_apply _ _ _ _ (ix1 k.castSucc) (fun a => by match a with | ⟨0, _⟩ => exact (Nat.zero_add _).symm),
      extractStridedSlice_apply _ _ _ _ (ix1 k.succ) (fun a => by match a with | ⟨0, _⟩ => exact Nat.add_comm _ _)] at h
    exact h
  · have h : (extractStridedSlice S3 ![0] lc slices_S4_S3_0 (ix1 k) : EReal) ≤ extractStridedSlice S3 ![1] lc slices_S4_S3_1 (ix1 k) := of_bit (each h6 (ix1 k))
    rw [extractStridedSlice_apply _ _ _ _ (ix1 k.castSucc) (fun a => by match a with | ⟨0, _⟩ => exact (Nat.zero_add _).symm),
      extractStridedSlice_apply _ _ _ _ (ix1 k.succ) (fun a => by match a with | ⟨0, _⟩ => exact Nat.add_comm _ _)] at h
    exact h

end Cert.Pre
-- ==== Proof.Equation.lean ====
/- Under the precondition, the kernel's array is the reference's. -/
module

public import proofs.«01_k».proof.Proof.KArray
public import proofs.«01_k».proof.Proof.RefValue
public import proofs.«01_k».proof.Proof.Pre

@[expose] public section

noncomputable section

open scoped BigOperators

namespace Cert.Equation

open Idealize.ShloMosaic hiding ix1 ix2 ix3
open Cert.KernelIdeal Idealize.ShloMosaic.ValueIdx Cert.KArray Cert.KValue

/-! ## The channel order as a bijection -/

/-- Words of small numbers agree only when the numbers do. -/
theorem word_inj {a b : Fin 128} (e : BitVec.ofNat 32 a.val = BitVec.ofNat 32 b.val) : a = b := by
  have h := congrArg BitVec.toNat e
  rw [BitVec.toNat_ofNat, BitVec.toNat_ofNat, Nat.mod_eq_of_lt (by omega), Nat.mod_eq_of_lt (by omega)] at h
  exact Fin.ext h

/-- An order of 128 positions naming each of 128 channels is a bijection. -/
theorem order_bij (o : Fin 128 → BitVec 32) (h : ∀ b : Fin 128, ∃ a : Fin 128, o a = BitVec.ofNat 32 b.val) :
    ∃ q : Fin 128 → Fin 128, Function.Bijective q ∧ ∀ k, o k = BitVec.ofNat 32 (q k).val := by
  choose g hg using h
  have inj : Function.Injective g := fun a b e => word_inj (by rw [← hg a, ← hg b, e])
  have bij : Function.Bijective g := Finite.injective_iff_bijective.mp inj
  refine ⟨(Equiv.ofBijective g bij).symm, (Equiv.ofBijective g bij).symm.bijective, fun k => ?_⟩
  have e : g ((Equiv.ofBijective g bij).symm k) = k := (Equiv.ofBijective g bij).apply_symm_apply k
  rw [← hg, e]

/-- The first 32 positions of the order are the high-precision channels. -/
theorem order_hi (hi : IVec S32 32) (li : IVec S96 32) (k : Fin 32) : order hi li (ix1 ⟨k.val, by omega⟩) = hi (ix1 k) := by
  unfold order
  exact concatenate_pair_apply_left (s₁ := S32) (s₂ := S96) (t := S128) (0 : Fin 1) hi li _ _ rfl (ix1 k) (fun b => by match b with | ⟨0, _⟩ => rfl)

/-- The other 96 positions are the low-precision channels. -/
theorem order_lo (hi : IVec S32 32) (li : IVec S96 32) (k : Fin 96) : order hi li (ix1 ⟨k.val + 32, by omega⟩) = li (ix1 k) := by
  unfold order
  exact concatenate_pair_apply_right (s₁ := S32) (s₂ := S96) (t := S128) (0 : Fin 1) hi li _ _ rfl rfl (ix1 k)
    (fun b hb => by match b with | ⟨0, _⟩ => exact absurd rfl hb) rfl

/-! ## The one-hot matrix -/

/-- Entry `(a, b)` of the one-hot matrix: one when position `a` names channel `b`, else zero. -/
theorem oneHot_apply (hi : IVec S32 32) (li : IVec S96 32) (a b : Fin 128) :
    (oneHot hi li (ix2 a b) : EReal) = if order hi li (ix1 a) = BitVec.ofNat 32 b.val then 1 else 0 := by
  have e1 : broadcastInDim S128x128 ![0, 1] Gen.bcast_S128x1_S128x128_0_1 (broadcastInDim S128x1 ![0] Gen.bcast_S128_S128x1_0 (order hi li)) (ix2 a b) = order hi li (ix1 a) := by
    rw [broadcastInDim_apply _ _ _ _ (ix2 a 0) (fun a => by match a with | ⟨0, _⟩ => rfl | ⟨1, _⟩ => rfl),
      broadcastInDim_apply _ _ _ _ (ix1 a) (fun a => by match a with | ⟨0, _⟩ => rfl)]
  have e2 : broadcastInDim S128x128 ![0, 1] Gen.bcast_S1x128_S128x128_0_1 (iotaInDim S1x128 32 1) (ix2 a b) = BitVec.ofNat 32 b.val := by
    rw [broadcastInDim_apply _ _ _ _ (ix2 0 b) (fun a => by match a with | ⟨0, _⟩ => rfl | ⟨1, _⟩ => rfl)]
    rfl
  have e : (oneHot hi li (ix2 a b) : EReal) = ((((BitVec.ofBool (order hi li (ix1 a) == BitVec.ofNat 32 b.val)).toNat : Nat) : ℝ) : EReal) := by
    rw [← e1, ← e2]
    rfl
  rw [e]
  by_cases h : order hi li (ix1 a) = BitVec.ofNat 32 b.val
  · rw [if_pos h, beq_iff_eq.mpr h]
    simp
  · rw [if_neg h, beq_false_of_ne h]
    simp

/-- A row of the one-hot matrix against a column picks the entry of the channel that position names. -/
theorem turned_apply (hi : IVec S32 32) (li : IVec S96 32) (q : Fin 128 → Fin 128) (hq : ∀ k, order hi li (ix1 k) = BitVec.ofNat 32 (q k).val)
    (p : Fin 128 → Fin 128 → EReal) (k d : Fin 128) : turned (fun a b => oneHot hi li (ix2 a b)) p k d = p (q k) d := by
  unfold turned
  rw [Finset.sum_eq_single (q k)]
  · show (oneHot hi li (ix2 k (q k)) : EReal) * p (q k) d = _
    rw [oneHot_apply, if_pos (hq k), one_mul]
  · intro c _ hc
    show (oneHot hi li (ix2 k c) : EReal) * p c d = 0
    rw [oneHot_apply, if_neg (fun e => hc (word_inj ((hq k).symm.trans e)).symm), zero_mul]
  · exact fun h => absurd (Finset.mem_univ _) h

/-! ## The equation -/

/-- Under the precondition the kernel's array and the reference's are equal. -/
theorem equal (x : FVec Ideal S65536x128 .f32) (p : FVec Ideal S128x128 .f32) (hc : FVec Ideal S16 .f32) (lc : FVec Ideal S4 .f32)
    (hi : IVec S32 32) (li : IVec S96 32) (e : Cert.Pre_codebook_inputs.fn (F := Ideal) x p hc lc hi li = fun _ => 1#1) :
    RefRun.out x p hc lc hi li = outArr x p hc lc hi li := by
  obtain ⟨fx, fp, fh, fl, sh, sl, cov⟩ := Pre.decode (j := ValueIdx.ix0) (congrFun e ValueIdx.ix0)
  choose xr hx using fx
  choose pr hp using fp
  choose a ha using fh
  choose b hb using fl
  obtain ⟨q, bij, hq⟩ := order_bij (fun k => order hi li (ix1 k)) cov
  have ma : Monotone fun k : Fin 16 => a (ix1 k) := Fin.monotone_iff_le_succ.mpr fun k => by
    have h := sh k
    rw [ha, ha] at h
    exact EReal.coe_le_coe_iff.mp h
  have mb : Monotone fun k : Fin 4 => b (ix1 k) := Fin.monotone_iff_le_succ.mpr fun k => by
    have h := sl k
    rw [hb, hb] at h
    exact EReal.coe_le_coe_iff.mp h
  funext j
  obtain ⟨r, d, rfl⟩ : ∃ (r : Fin 65536) (d : Fin 128), j = ix2 r d := ⟨j 0, j 1, ValueIdx.eq_ix2 j⟩
  rw [RefValue.out_apply x p hc lc hi li q bij (fun k => (order_hi hi li k).symm.trans (hq _)) (fun k => (order_lo hi li k).symm.trans (hq _))
    (fun r c => xr (ix2 r c)) (fun r c => hx _) (fun c e => pr (ix2 c e)) (fun c e => hp _) _ ma (fun c => ha _) _ mb (fun c => hb _) r d]
  show _ = rowOut (fun a b => oneHot hi li (ix2 a b)) (fun a b => p (ix2 a b)) (fun k => hc (ix1 k)) (fun k => lc (ix1 k)) (fun c => x (ix2 r c)) d
  unfold rowOut coord
  simp only [turned_apply hi li q hq]

end Cert.Equation
-- ==== Proof.lean ====
/- The certificate: the kernel over bit patterns and over the extended reals, and the reference, each run and leave their
   arguments and semaphores as they were; the extended-real kernel is the bit-pattern one with its arithmetic made exact; and,
   for finite inputs with sorted codebooks and an order naming every channel, it computes what the reference computes. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.Pre_codebook_inputs
public import proofs.«01_k».proof.Proof.Equation

@[expose] public section

noncomputable section

namespace Cert.Proof

open Idealize.ShloMosaic Idealize.SL.Sem

/-- Under the precondition, the kernel's result and the reference's are one array. -/
theorem algebraic : Cert.algebraic_KernelIdeal_ReferenceIdeal_pre_codebook_inputs := by
  intro m g m' g' pre agree
  refine ⟨fun c => KArray.outArr (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3))
    (m ((c.tc : Thread _ _).loc Cert.KernelIdeal.main_arg4)) (m ((c.tc : Thread _ _).loc Cert.KernelIdeal.main_arg5)), KArray.run m g, ?_⟩
  refine θ_run_mono (RefRun.run m' g') fun r h c => ⟨(h c).1.trans ?_, (h c).2⟩
  obtain ⟨e0, e1, e2, e3, e4, e5⟩ := agree c
  rw [e0, e1, e2, e3, e4, e5]
  exact Equation.equal _ _ _ _ _ _ (pre c)

/-- Everything the certificate claims. -/
theorem claim : Cert.Claim := ⟨Cert.Kernel.Gen.facts, Cert.KernelIdeal.Gen.facts, Cert.ReferenceIdeal.Gen.facts, Cert.Pre_codebook_inputs.Gen.facts,
  fun m g _ => Cert.Kernel.Gen.frame m g, fun m g _ => Cert.KernelIdeal.Gen.frame m g, fun m g _ => Cert.KernelIdeal.Gen.frame m g,
  fun m g _ => RefRun.quiescent m g, fun m g _ => RefRun.quiescent m g, trivial, algebraic⟩

end Cert.Proof

end
